-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_lens_fit [hPre_lens_fit : Cert.Pre_lens_fit.Facts] (m : (ℓ : Loc Cert.KernelIdeal.nD Cert.KernelIdeal.τ Cert.KernelIdeal.sig) → Buf (Elt Ideal) ℓ) : Prop :=
  ∀ c : Dev Cert.KernelIdeal.nD,
    (Cert.Pre_lens_fit.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_lens_fit [hPre_lens_fit : Cert.Pre_lens_fit.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_lens_fit.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_lens_fit [hKernelIdeal : Cert.KernelIdeal.Facts] [hPre_lens_fit : Cert.Pre_lens_fit.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_lens_fit m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_lens_fit [hReferenceIdeal : Cert.ReferenceIdeal.Facts] [hPre_lens_fit : Cert.Pre_lens_fit.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_lens_fit m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal_pre_lens_fit [hKernelIdeal : Cert.KernelIdeal.Facts] [hReferenceIdeal : Cert.ReferenceIdeal.Facts] [hPre_lens_fit : Cert.Pre_lens_fit.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_lens_fit m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v13_0)) (v1 : (c : Dev Cert.KernelIdeal.nD) → Buf (Elt Ideal) ((c.tc : Thread Cert.KernelIdeal.nD Cert.KernelIdeal.τ).loc Cert.KernelIdeal.main_v13_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13_0) = v0 c
          ∧ r.2.mem ((c.tc : Thread Cert.KernelIdeal.nD Cert.KernelIdeal.τ).loc Cert.KernelIdeal.main_v13_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18_8) = v0 c
          ∧ r.2.mem ((c.tc : Thread Cert.ReferenceIdeal.nD Cert.ReferenceIdeal.τ).loc Cert.ReferenceIdeal.main_v33) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_lens_fit : Cert.Pre_lens_fit.Facts),
    quiescent_Kernel (hKernel := hKernel)
    ∧ quiescent_KernelIdeal (hKernelIdeal := hKernelIdeal)
    ∧ quiescent_KernelIdeal_pre_lens_fit (hKernelIdeal := hKernelIdeal) (hPre_lens_fit := hPre_lens_fit)
    ∧ quiescent_ReferenceIdeal (hReferenceIdeal := hReferenceIdeal)
    ∧ quiescent_ReferenceIdeal_pre_lens_fit (hReferenceIdeal := hReferenceIdeal) (hPre_lens_fit := hPre_lens_fit)
    ∧ preserves_Kernel_KernelIdeal
    ∧ algebraic_KernelIdeal_ReferenceIdeal_pre_lens_fit (hKernelIdeal := hKernelIdeal) (hReferenceIdeal := hReferenceIdeal) (hPre_lens_fit := hPre_lens_fit)
-- ==== Pre_lens_fit.lean ====
abbrev S16x512x512 : Shape := ⟨3, ![16, 512, 512]⟩
abbrev S16 : Shape := ⟨1, ![16]⟩
abbrev S1536x512 : Shape := ⟨2, ![1536, 512]⟩
abbrev S1536 : Shape := ⟨1, ![1536]⟩
abbrev S_ : Shape := ⟨0, ![]⟩

class Facts : Prop where
  bcast_S_S16 : S_.BroadcastsInDim S16 (![] : Fin 0 → Fin S16.rank)

variable [Facts]

def fn {F : FTy → Type} [FloatOps F] (main_arg0 : FVec F S16x512x512 .f32) (main_arg1 : IVec S16 32) (main_arg2 : FVec F S1536x512 .f32) (main_arg3 : FVec F S1536x512 .f32) (main_arg4 : FVec F S1536 .f32) (main_arg5 : FVec F S1536 .f32) : IVec S16 1 :=
  let main_c : IVec S_ 32 := constantI S_ 32 512#32
  let main_v0 : IVec S16 32 := broadcastInDim S16 ![] bcast_S_S16 main_c
  let main_v1 : IVec S16 1 := cmpi .sle main_arg1 main_v0
  main_v1
-- ==== Kernel.lean ====
abbrev S16x512x512 : Shape := ⟨3, ![16, 512, 512]⟩
abbrev S16 : Shape := ⟨1, ![16]⟩
abbrev S1536x512 : Shape := ⟨2, ![1536, 512]⟩
abbrev S1536 : Shape := ⟨1, ![1536]⟩
abbrev S512x1536 : Shape := ⟨2, ![512, 1536]⟩
abbrev S1024 : Shape := ⟨1, ![1024]⟩
abbrev S512 : Shape := ⟨1, ![512]⟩
abbrev S1x1536 : Shape := ⟨2, ![1, 1536]⟩
abbrev S1x512 : Shape := ⟨2, ![1, 512]⟩
abbrev S16x1 : Shape := ⟨2, ![16, 1]⟩
abbrev S16x512 : Shape := ⟨2, ![16, 512]⟩
abbrev S16x64x512 : Shape := ⟨3, ![16, 64, 512]⟩
abbrev S16x64x1536 : Shape := ⟨3, ![16, 64, 1536]⟩
abbrev S1024x512 : Shape := ⟨2, ![1024, 512]⟩
abbrev S1024x1536 : Shape := ⟨2, ![1024, 1536]⟩
abbrev S512x1024 : Shape := ⟨2, ![512, 1024]⟩
abbrev S512x512 : Shape := ⟨2, ![512, 512]⟩
abbrev S16x1x1536 : Shape := ⟨3, ![16, 1, 1536]⟩
abbrev S16x1536 : Shape := ⟨2, ![16, 1536]⟩
abbrev S16x1024 : Shape := ⟨2, ![16, 1024]⟩
abbrev S16x1x512 : Shape := ⟨3, ![16, 1, 512]⟩

abbrev nBuf : Space → Nat
  | .hbm => 21
  | .vmem => 12
  | .smem => 0
  | _ => 0

abbrev bufTy : (tb : Table) → Fin (tcTables nBuf tb) → BufTy
  | .hbm, ⟨0, _⟩ => ⟨S16x512x512, .f32⟩
  | .hbm, ⟨1, _⟩ => ⟨S16, .i32⟩
  | .hbm, ⟨2, _⟩ => ⟨S1536x512, .f32⟩
  | .hbm, ⟨3, _⟩ => ⟨S1536x512, .f32⟩
  | .hbm, ⟨4, _⟩ => ⟨S1536, .f32⟩
  | .hbm, ⟨5, _⟩ => ⟨S1536, .f32⟩
  | .hbm, ⟨6, _⟩ => ⟨S512x1536, .f32⟩
  | .hbm, ⟨7, _⟩ => ⟨S512x1536, .bf16⟩
  | .hbm, ⟨8, _⟩ => ⟨S512x1536, .f32⟩
  | .hbm, ⟨9, _⟩ => ⟨S512x1536, .bf16⟩
  | .hbm, ⟨10, _⟩ => ⟨S1024, .f32⟩
  | .hbm, ⟨11, _⟩ => ⟨S1024, .f32⟩
  | .hbm, ⟨12, _⟩ => ⟨S1024, .f32⟩
  | .hbm, ⟨13, _⟩ => ⟨S512, .f32⟩
  | .hbm, ⟨14, _⟩ => ⟨S1536, .f32⟩
  | .hbm, ⟨15, _⟩ => ⟨S1x1536, .f32⟩
  | .hbm, ⟨16, _⟩ => ⟨S512, .f32⟩
  | .hbm, ⟨17, _⟩ => ⟨S1x512, .f32⟩
  | .hbm, ⟨18, _⟩ => ⟨S16x1, .i32⟩
  | .hbm, ⟨19, _⟩ => ⟨S16x512, .f32⟩
  | .hbm, ⟨20, _⟩ => ⟨S16x512x512, .f32⟩
  | .local _ .vmem, ⟨0, _⟩ => ⟨S16x64x512, .f32⟩
  | .local _ .vmem, ⟨1, _⟩ => ⟨S16x64x512, .f32⟩
  | .local _ .vmem, ⟨2, _⟩ => ⟨S512x1536, .bf16⟩
  | .local _ .vmem, ⟨3, _⟩ => ⟨S1x1536, .f32⟩
  | .local _ .vmem, ⟨4, _⟩ => ⟨S512x1536, .bf16⟩
  | .local _ .vmem, ⟨5, _⟩ => ⟨S1x512, .f32⟩
  | .local _ .vmem, ⟨6, _⟩ => ⟨S16x1, .i32⟩
  | .local _ .vmem, ⟨7, _⟩ => ⟨S16x512, .f32⟩
  | .local _ .vmem, ⟨8, _⟩ => ⟨S16x64x512, .f32⟩
  | .local _ .vmem, ⟨9, _⟩ => ⟨S16x64x512, .f32⟩
  | .local _ .vmem, ⟨10, _⟩ => ⟨S16x512, .f32⟩
  | .local _ .vmem, ⟨11, _⟩ => ⟨S16x64x1536, .f32⟩
  | _, _ => ⟨S16x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13_0 : Ref sig .tc := ⟨.hbm, 19, rfl⟩
abbrev main_v13_1 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  let c0_i32_1 : BitVec 32 := 0#32
  ![c0_i32.toNat, v0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  let c0_i32_1 : BitVec 32 := 0#32
  ![c0_i32.toNat, v0.toNat, c0_i32_0.toNat]

abbrev stage0_0 : Fin 2 → Memref sig .tc .vmem S16x64x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x1536 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1536 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x1536 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S16x1 .i32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S16x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S16x64x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ReferenceIdeal.lean ====
abbrev S16x512x512 : Shape := ⟨3, ![16, 512, 512]⟩
abbrev S16 : Shape := ⟨1, ![16]⟩
abbrev S1536x512 : Shape := ⟨2, ![1536, 512]⟩
abbrev S1536 : Shape := ⟨1, ![1536]⟩
abbrev S512 : Shape := ⟨1, ![512]⟩
abbrev S1x512 : Shape := ⟨2, ![1, 512]⟩
abbrev S16x1 : Shape := ⟨2, ![16, 1]⟩
abbrev S16x512 : Shape := ⟨2, ![16, 512]⟩
abbrev S_ : Shape := ⟨0, ![]⟩
abbrev S16x512x1 : Shape := ⟨3, ![16, 512, 1]⟩
abbrev S512x16x512 : Shape := ⟨3, ![512, 16, 512]⟩
abbrev S1x16x512 : Shape := ⟨3, ![1, 16, 512]⟩
abbrev S1 : Shape := ⟨1, ![1]⟩
abbrev S512x1536 : Shape := ⟨2, ![512, 1536]⟩
abbrev S16x1536 : Shape := ⟨2, ![16, 1536]⟩
abbrev S1x1536 : Shape := ⟨2, ![1, 1536]⟩

abbrev nBuf : Space → Nat
  | .hbm => 137
  | .vmem => 0
  | .smem => 0
  | _ => 0

abbrev hbmTy0_0 (i : Nat) : BufTy := match i % 128 with
  | 0 => ⟨S16x512x512, .f32⟩
  | 1 => ⟨S16, .i32⟩
  | 2 => ⟨S1536x512, .f32⟩
  | 3 => ⟨S1536x512, .f32⟩
  | 4 => ⟨S1536, .f32⟩
  | 5 => ⟨S1536, .f32⟩
  | 6 => ⟨S512, .i32⟩
  | 7 => ⟨S1x512, .i32⟩
  | 8 => ⟨S16x1, .i32⟩
  | 9 => ⟨S16x512, .i32⟩
  | 10 => ⟨S16x512, .i32⟩
  | 11 => ⟨S16x512, .i1⟩
  | 12 => ⟨S_, .i32⟩
  | 13 => ⟨S16x1, .i32⟩
  | 14 => ⟨S16x1, .i32⟩
  | 15 => ⟨S16x512, .i32⟩
  | 16 => ⟨S16x512, .i32⟩
  | 17 => ⟨S16x512, .i32⟩
  | 18 => ⟨S16x512, .i32⟩
  | 19 => ⟨S16x512, .i32⟩
  | 20 => ⟨S16x512x1, .i32⟩
  | 21 => ⟨S_, .i32⟩
  | 22 => ⟨S16x512x1, .i32⟩
  | 23 => ⟨S16x512x1, .i1⟩
  | 24 => ⟨S_, .i32⟩
  | 25 => ⟨S16x512x1, .i32⟩
  | 26 => ⟨S16x512x1, .i32⟩
  | 27 => ⟨S16x512x1, .i32⟩
  | 28 => ⟨S16x512x512, .f32⟩
  | 29 => ⟨S_, .f32⟩
  | 30 => ⟨S16x512, .f32⟩
  | 31 => ⟨S512, .i32⟩
  | 32 => ⟨S512x16x512, .f32⟩
  | 33 => ⟨S_, .f32⟩
  | 34 => ⟨S512x16x512, .f32⟩
  | 35 => ⟨S_, .i32⟩
  | 36 => ⟨S512x16x512, .f32⟩
  | 37 => ⟨S512, .i32⟩
  | 38 => ⟨S1536x512, .f32⟩
  | 39 => ⟨S1536, .f32⟩
  | 40 => ⟨S1536x512, .f32⟩
  | 41 => ⟨S1536, .f32⟩
  | 42 => ⟨S16, .i32⟩
  | 43 => ⟨S_, .i32⟩
  | 44 => ⟨S16x512, .f32⟩
  | 45 => ⟨S512x16x512, .f32⟩
  | 46 => ⟨S_, .i32⟩
  | 47 => ⟨S_, .i1⟩
  | 48 => ⟨S_, .i32⟩
  | 49 => ⟨S_, .i32⟩
  | 50 => ⟨S1x16x512, .f32⟩
  | 51 => ⟨S16x512, .f32⟩
  | 52 => ⟨S1, .i32⟩
  | 53 => ⟨S_, .i32⟩
  | 54 => ⟨S512x1536, .f32⟩
  | 55 => ⟨S16x1536, .f32⟩
  | 56 => ⟨S1x1536, .f32⟩
  | 57 => ⟨S16x1536, .f32⟩
  | 58 => ⟨S16x1536, .f32⟩
  | 59 => ⟨S512x1536, .f32⟩
  | 60 => ⟨S16x1536, .f32⟩
  | 61 => ⟨S1x1536, .f32⟩
  | 62 => ⟨S16x1536, .f32⟩
  | 63 => ⟨S16x1536, .f32⟩
  | 64 => ⟨S16x512, .f32⟩
  | 65 => ⟨S16x512, .f32⟩
  | 66 => ⟨S16x512, .f32⟩
  | 67 => ⟨S16x512, .f32⟩
  | 68 => ⟨S16x512, .f32⟩
  | 69 => ⟨S16x512, .f32⟩
  | 70 => ⟨S16x512, .f32⟩
  | 71 => ⟨S16x512, .f32⟩
  | 72 => ⟨S16x512, .f32⟩
  | 73 => ⟨S_, .f32⟩
  | 74 => ⟨S16x512, .f32⟩
  | 75 => ⟨S16x512, .f32⟩
  | 76 => ⟨S_, .f32⟩
  | 77 => ⟨S16x512, .f32⟩
  | 78 => ⟨S16x512, .f32⟩
  | 79 => ⟨S16x512, .f32⟩
  | 80 => ⟨S16x512, .f32⟩
  | 81 => ⟨S16x512, .f32⟩
  | 82 => ⟨S_, .f32⟩
  | 83 => ⟨S16x512, .f32⟩
  | 84 => ⟨S16x512, .f32⟩
  | 85 => ⟨S_, .f32⟩
  | 86 => ⟨S16x512, .f32⟩
  | 87 => ⟨S16x512, .f32⟩
  | 88 => ⟨S16x512, .f32⟩
  | 89 => ⟨S16x512, .f32⟩
  | 90 => ⟨S16x512, .f32⟩
  | 91 => ⟨S_, .f32⟩
  | 92 => ⟨S16x512, .f32⟩
  | 93 => ⟨S16x512, .f32⟩
  | 94 => ⟨S16x512, .f32⟩
  | 95 => ⟨S16x512, .f32⟩
  | 96 => ⟨S16x512, .f32⟩
  | 97 => ⟨S16, .i32⟩
  | 98 => ⟨S16, .i1⟩
  | 99 => ⟨S16x1, .i1⟩
  | 100 => ⟨S16x512, .i1⟩
  | 101 => ⟨S16x512, .f32⟩
  | 102 => ⟨S_, .f32⟩
  | 103 => ⟨S_, .f32⟩
  | 104 => ⟨S16x512, .i1⟩
  | 105 => ⟨S16x512, .f32⟩
  | 106 => ⟨S16x512, .f32⟩
  | 107 => ⟨S1x16x512, .f32⟩
  | 108 => ⟨S_, .i32⟩
  | 109 => ⟨S_, .i32⟩
  | 110 => ⟨S512x16x512, .f32⟩
  | 111 => ⟨S_, .i32⟩
  | 112 => ⟨S_, .i32⟩
  | 113 => ⟨S16x512x512, .f32⟩
  | 114 => ⟨S512, .i32⟩
  | 115 => ⟨S1x512, .i32⟩
  | 116 => ⟨S16x1, .i32⟩
  | 117 => ⟨S16x512, .i32⟩
  | 118 => ⟨S16x512, .i32⟩
  | 119 => ⟨S16x512, .i1⟩
  | 120 => ⟨S_, .i32⟩
  | 121 => ⟨S16x1, .i32⟩
  | 122 => ⟨S16x1, .i32⟩
  | 123 => ⟨S16x512, .i32⟩
  | 124 => ⟨S16x512, .i32⟩
  | 125 => ⟨S16x512, .i32⟩
  | 126 => ⟨S16x512, .i32⟩
  | 127 => ⟨S16x512, .i32⟩
  | _ => ⟨S16x512x512, .f32⟩

abbrev hbmTy0_1 (i : Nat) : BufTy := match i % 128 with
  | 0 => ⟨S16x512x1, .i32⟩
  | 1 => ⟨S_, .i32⟩
  | 2 => ⟨S16x512x1, .i32⟩
  | 3 => ⟨S16x512x1, .i1⟩
  | 4 => ⟨S_, .i32⟩
  | 5 => ⟨S16x512x1, .i32⟩
  | 6 => ⟨S16x512x1, .i32⟩
  | 7 => ⟨S16x512x1, .i32⟩
  | 8 => ⟨S16x512x512, .f32⟩
  | _ => ⟨S16x512x512, .f32⟩

abbrev hbmTy (i : Nat) : BufTy := match i / 128 with
  | 0 => hbmTy0_0 i
  | 1 => hbmTy0_1 i
  | _ => ⟨S16x512x512, .f32⟩

abbrev bufTy : (tb : Table) → Fin (tcTables nBuf tb) → BufTy
  | .hbm, ⟨i, _⟩ => hbmTy i
  | _, _ => ⟨S16x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_c : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_call0_v0 : Ref sig .tc := ⟨.hbm, 18, rfl⟩
abbrev main_v11 : Ref sig .tc := ⟨.hbm, 19, rfl⟩
abbrev main_v12 : Ref sig .tc := ⟨.hbm, 20, rfl⟩
abbrev main_call1_c : Ref sig .tc := ⟨.hbm, 21, rfl⟩
abbrev main_call1_v0 : Ref sig .tc := ⟨.hbm, 22, rfl⟩
abbrev main_call1_v1 : Ref sig .tc := ⟨.hbm, 23, rfl⟩
abbrev main_call1_c_0 : Ref sig .tc := ⟨.hbm, 24, rfl⟩
abbrev main_call1_v2 : Ref sig .tc := ⟨.hbm, 25, rfl⟩
abbrev main_call1_v3 : Ref sig .tc := ⟨.hbm, 26, rfl⟩
abbrev main_call1_v4 : Ref sig .tc := ⟨.hbm, 27, rfl⟩
abbrev main_v13 : Ref sig .tc := ⟨.hbm, 28, rfl⟩
abbrev main_cst : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_cst_0 : Ref sig .tc := ⟨.hbm, 33, rfl⟩
abbrev main_v17 : Ref sig .tc := ⟨.hbm, 34, rfl⟩
abbrev main_c_1 : Ref sig .tc := ⟨.hbm, 35, rfl⟩
abbrev main_v18_0 : Ref sig .tc := ⟨.hbm, 36, rfl⟩
abbrev main_v18_1 : Ref sig .tc := ⟨.hbm, 37, rfl⟩
abbrev main_v18_2 : Ref sig .tc := ⟨.hbm, 38, rfl⟩
abbrev main_v18_3 : Ref sig .tc := ⟨.hbm, 39, rfl⟩
abbrev main_v18_4 : Ref sig .tc := ⟨.hbm, 40, rfl⟩
abbrev main_v18_5 : Ref sig .tc := ⟨.hbm, 41, rfl⟩
abbrev main_v18_6 : Ref sig .tc := ⟨.hbm, 42, rfl⟩
abbrev main_v18_7 : Ref sig .tc := ⟨.hbm, 43, rfl⟩
abbrev main_v18_8 : Ref sig .tc := ⟨.hbm, 44, rfl⟩
abbrev main_v18_9 : Ref sig .tc := ⟨.hbm, 45, rfl⟩
abbrev main_while0c_c_12 : Ref sig .tc := ⟨.hbm, 46, rfl⟩
abbrev main_while0c_v34 : Ref sig .tc := ⟨.hbm, 47, rfl⟩
abbrev main_while0b_call2_c : Ref sig .tc := ⟨.hbm, 48, rfl⟩
abbrev main_while0b_call2_c_0 : Ref sig .tc := ⟨.hbm, 49, rfl⟩
abbrev main_while0b_call2_v0 : Ref sig .tc := ⟨.hbm, 50, rfl⟩
abbrev main_while0b_v34 : Ref sig .tc := ⟨.hbm, 51, rfl⟩
abbrev main_while0b_call3_v0 : Ref sig .tc := ⟨.hbm, 52, rfl⟩
abbrev main_while0b_v35 : Ref sig .tc := ⟨.hbm, 53, rfl⟩
abbrev main_while0b_v36 : Ref sig .tc := ⟨.hbm, 54, rfl⟩
abbrev main_while0b_v37 : Ref sig .tc := ⟨.hbm, 55, rfl⟩
abbrev main_while0b_v38 : Ref sig .tc := ⟨.hbm, 56, rfl⟩
abbrev main_while0b_v39 : Ref sig .tc := ⟨.hbm, 57, rfl⟩
abbrev main_while0b_v40 : Ref sig .tc := ⟨.hbm, 58, rfl⟩
abbrev main_while0b_v41 : Ref sig .tc := ⟨.hbm, 59, rfl⟩
abbrev main_while0b_v42 : Ref sig .tc := ⟨.hbm, 60, rfl⟩
abbrev main_while0b_v43 : Ref sig .tc := ⟨.hbm, 61, rfl⟩
abbrev main_while0b_v44 : Ref sig .tc := ⟨.hbm, 62, rfl⟩
abbrev main_while0b_v45 : Ref sig .tc := ⟨.hbm, 63, rfl⟩
abbrev main_while0b_v46 : Ref sig .tc := ⟨.hbm, 64, rfl⟩
abbrev main_while0b_v47 : Ref sig .tc := ⟨.hbm, 65, rfl⟩
abbrev main_while0b_v48 : Ref sig .tc := ⟨.hbm, 66, rfl⟩
abbrev main_while0b_v49 : Ref sig .tc := ⟨.hbm, 67, rfl⟩
abbrev main_while0b_v50 : Ref sig .tc := ⟨.hbm, 68, rfl⟩
abbrev main_while0b_v51 : Ref sig .tc := ⟨.hbm, 69, rfl⟩
abbrev main_while0b_v52 : Ref sig .tc := ⟨.hbm, 70, rfl⟩
abbrev main_while0b_v53 : Ref sig .tc := ⟨.hbm, 71, rfl⟩
abbrev main_while0b_v54 : Ref sig .tc := ⟨.hbm, 72, rfl⟩
abbrev main_while0b_cst_12 : Ref sig .tc := ⟨.hbm, 73, rfl⟩
abbrev main_while0b_v55 : Ref sig .tc := ⟨.hbm, 74, rfl⟩
abbrev main_while0b_v56 : Ref sig .tc := ⟨.hbm, 75, rfl⟩
abbrev main_while0b_cst_13 : Ref sig .tc := ⟨.hbm, 76, rfl⟩
abbrev main_while0b_v57 : Ref sig .tc := ⟨.hbm, 77, rfl⟩
abbrev main_while0b_v58 : Ref sig .tc := ⟨.hbm, 78, rfl⟩
abbrev main_while0b_v59 : Ref sig .tc := ⟨.hbm, 79, rfl⟩
abbrev main_while0b_v60 : Ref sig .tc := ⟨.hbm, 80, rfl⟩
abbrev main_while0b_v61 : Ref sig .tc := ⟨.hbm, 81, rfl⟩
abbrev main_while0b_cst_14 : Ref sig .tc := ⟨.hbm, 82, rfl⟩
abbrev main_while0b_v62 : Ref sig .tc := ⟨.hbm, 83, rfl⟩
abbrev main_while0b_v63 : Ref sig .tc := ⟨.hbm, 84, rfl⟩
abbrev main_while0b_cst_15 : Ref sig .tc := ⟨.hbm, 85, rfl⟩
abbrev main_while0b_v64 : Ref sig .tc := ⟨.hbm, 86, rfl⟩
abbrev main_while0b_v65 : Ref sig .tc := ⟨.hbm, 87, rfl⟩
abbrev main_while0b_v66 : Ref sig .tc := ⟨.hbm, 88, rfl⟩
abbrev main_while0b_v67 : Ref sig .tc := ⟨.hbm, 89, rfl⟩
abbrev main_while0b_v68 : Ref sig .tc := ⟨.hbm, 90, rfl⟩
abbrev main_while0b_cst_16 : Ref sig .tc := ⟨.hbm, 91, rfl⟩
abbrev main_while0b_v69 : Ref sig .tc := ⟨.hbm, 92, rfl⟩
abbrev main_while0b_v70 : Ref sig .tc := ⟨.hbm, 93, rfl⟩
abbrev main_while0b_v71 : Ref sig .tc := ⟨.hbm, 94, rfl⟩
abbrev main_while0b_v72 : Ref sig .tc := ⟨.hbm, 95, rfl⟩
abbrev main_while0b_v73 : Ref sig .tc := ⟨.hbm, 96, rfl⟩
abbrev main_while0b_v74 : Ref sig .tc := ⟨.hbm, 97, rfl⟩
abbrev main_while0b_v75 : Ref sig .tc := ⟨.hbm, 98, rfl⟩
abbrev main_while0b_v76 : Ref sig .tc := ⟨.hbm, 99, rfl⟩
abbrev main_while0b_call4_v0 : Ref sig .tc := ⟨.hbm, 100, rfl⟩
abbrev main_while0b_v77 : Ref sig .tc := ⟨.hbm, 101, rfl⟩
abbrev main_while0b_cst_17 : Ref sig .tc := ⟨.hbm, 102, rfl⟩
abbrev main_while0b_call5_v0 : Ref sig .tc := ⟨.hbm, 103, rfl⟩
abbrev main_while0b_call5_v1 : Ref sig .tc := ⟨.hbm, 104, rfl⟩
abbrev main_while0b_call5_v2 : Ref sig .tc := ⟨.hbm, 105, rfl⟩
abbrev main_while0b_v78 : Ref sig .tc := ⟨.hbm, 106, rfl⟩
abbrev main_while0b_call6_v0 : Ref sig .tc := ⟨.hbm, 107, rfl⟩
abbrev main_while0b_call6_c : Ref sig .tc := ⟨.hbm, 108, rfl⟩
abbrev main_while0b_call6_c_0 : Ref sig .tc := ⟨.hbm, 109, rfl⟩
abbrev main_while0b_v79 : Ref sig .tc := ⟨.hbm, 110, rfl⟩
abbrev main_while0b_c_18 : Ref sig .tc := ⟨.hbm, 111, rfl⟩
abbrev main_while0b_v80 : Ref sig .tc := ⟨.hbm, 112, rfl⟩
abbrev main_v19 : Ref sig .tc := ⟨.hbm, 113, rfl⟩
abbrev main_v20 : Ref sig .tc := ⟨.hbm, 114, rfl⟩
abbrev main_v21 : Ref sig .tc := ⟨.hbm, 115, rfl⟩
abbrev main_v22 : Ref sig .tc := ⟨.hbm, 116, rfl⟩
abbrev main_v23 : Ref sig .tc := ⟨.hbm, 117, rfl⟩
abbrev main_v24 : Ref sig .tc := ⟨.hbm, 118, rfl⟩
abbrev main_v25 : Ref sig .tc := ⟨.hbm, 119, rfl⟩
abbrev main_c_2 : Ref sig .tc := ⟨.hbm, 120, rfl⟩
abbrev main_v26 : Ref sig .tc := ⟨.hbm, 121, rfl⟩
abbrev main_v27 : Ref sig .tc := ⟨.hbm, 122, rfl⟩
abbrev main_v28 : Ref sig .tc := ⟨.hbm, 123, rfl⟩
abbrev main_v29 : Ref sig .tc := ⟨.hbm, 124, rfl⟩
abbrev main_v30 : Ref sig .tc := ⟨.hbm, 125, rfl⟩
abbrev main_call7_v0 : Ref sig .tc := ⟨.hbm, 126, rfl⟩
abbrev main_v31 : Ref sig .tc := ⟨.hbm, 127, rfl⟩
abbrev main_v32 : Ref sig .tc := ⟨.hbm, 128, rfl⟩
abbrev main_call8_c : Ref sig .tc := ⟨.hbm, 129, rfl⟩
abbrev main_call8_v0 : Ref sig .tc := ⟨.hbm, 130, rfl⟩
abbrev main_call8_v1 : Ref sig .tc := ⟨.hbm, 131, rfl⟩
abbrev main_call8_c_0 : Ref sig .tc := ⟨.hbm, 132, rfl⟩
abbrev main_call8_v2 : Ref sig .tc := ⟨.hbm, 133, rfl⟩
abbrev main_call8_v3 : Ref sig .tc := ⟨.hbm, 134, rfl⟩
abbrev main_call8_v4 : Ref sig .tc := ⟨.hbm, 135, rfl⟩
abbrev main_v33 : Ref sig .tc := ⟨.hbm, 136, rfl⟩

abbrev nD : Nat := 1
abbrev τ : Topo := Topo.v7x

variable {F : FTy → Type} [FloatOps F]

abbrev main_while0_count : Scf.Loop 32 := ⟨0#32, 512#32, 1#32⟩
-- ==== Proof.Gru.lean ====
/- The gated recurrent unit as mathematics over the extended reals: the arguments as plain functions, one update of the
   state, and the state of a row reached from the end of the sequence. -/
module

public import Idealize.ShloMosaic.Lib.Pointwise

@[expose] public section

noncomputable section

namespace Cert.Gru

open Idealize.ShloMosaic

/-- The six arguments: the inputs `x` (row, time, feature), the rows' lengths, the input and recurrent weights and the
    input and recurrent biases (the reset, update and candidate gates in that order). -/
structure Args where
  x : Fin 16 → Fin 512 → Fin 512 → EReal
  len : Fin 16 → BitVec 32
  wih : Fin 1536 → Fin 512 → EReal
  whh : Fin 1536 → Fin 512 → EReal
  bih : Fin 1536 → EReal
  bhh : Fin 1536 → EReal

/-- The arguments as the programs hold them, arrays over multi-indices. -/
def argsOf (x : FVec Ideal ⟨3, ![16, 512, 512]⟩ .f32) (len : IVec ⟨1, ![16]⟩ 32) (wih whh : FVec Ideal ⟨2, ![1536, 512]⟩ .f32)
    (bih bhh : FVec Ideal ⟨1, ![1536]⟩ .f32) : Args where
  x b t d := x (ix3 b t d)
  len b := len (ix1 b)
  wih q d := wih (ix2 q d)
  whh q d := whh (ix2 q d)
  bih q := bih (ix1 q)
  bhh q := bhh (ix1 q)

/-- Column `j` of the reset gate. -/
def colR (j : Fin 512) : Fin 1536 := ⟨j.val, by omega⟩
/-- Column `j` of the update gate. -/
def colZ (j : Fin 512) : Fin 1536 := ⟨512 + j.val, by omega⟩
/-- Column `j` of the candidate. -/
def colN (j : Fin 512) : Fin 1536 := ⟨1024 + j.val, by omega⟩

/-- A vector against one row of a weight matrix. -/
def dot (w : Fin 1536 → Fin 512 → EReal) (v : Fin 512 → EReal) (q : Fin 1536) : EReal := ∑ d : Fin 512, v d * w q d

namespace Args

variable (a : Args)

/-- The input half of a gate's argument, with its bias. -/
def gi (b : Fin 16) (t : Fin 512) (q : Fin 1536) : EReal := dot a.wih (a.x b t) q + a.bih q
/-- The recurrent half of a gate's argument, with its bias. -/
def gh (h : Fin 512 → EReal) (q : Fin 1536) : EReal := dot a.whh h q + a.bhh q

/-- The reset gate. -/
def reset (b : Fin 16) (t : Fin 512) (h : Fin 512 → EReal) (j : Fin 512) : EReal :=
  Ideal.logistic (a.gi b t (colR j) + a.gh h (colR j))
/-- The update gate. -/
def upd (b : Fin 16) (t : Fin 512) (h : Fin 512 → EReal) (j : Fin 512) : EReal :=
  Ideal.logistic (a.gi b t (colZ j) + a.gh h (colZ j))
/-- The candidate state. -/
def cand (b : Fin 16) (t : Fin 512) (h : Fin 512 → EReal) (j : Fin 512) : EReal :=
  Ideal.tanh (a.gi b t (colN j) + a.reset b t h j * a.gh h (colN j))

/-- One update of row `b`'s state `h` by its input at time `t`. -/
def gru (b : Fin 16) (t : Fin 512) (h : Fin 512 → EReal) (j : Fin 512) : EReal :=
  (1 - a.upd b t h j) * a.cand b t h j + a.upd b t h j * h j

/-- Row `b`'s state after the `n` last time steps, taken from the end of the sequence: zero at the steps at and past the
    row's length, one update at each step before it. -/
def back (b : Fin 16) : ℕ → Fin 512 → EReal
  | 0 => fun _ => 0
  | n + 1 => fun j => if (BitVec.ofNat 32 (511 - n)).slt (a.len b) then a.gru b ⟨511 - n, by omega⟩ (back b n) j else 0

end Args

end Cert.Gru

end
-- ==== Proof.Steps.lean ====
/- The recurrence the kernel runs inside one block of 64 time steps, written as one function of the step number,
   and that what a block's body stores is that recurrence's states. -/
module

public import proofs.«01_k».proof.Proof.Gen.KernelIdeal.Frame
public import Idealize.ShloMosaic.Lib.Pipeline.ValueKit
public import Idealize.ShloMosaic.Lib.Pointwise

@[expose] public section

set_option maxRecDepth 16384

noncomputable section

namespace Cert.KernelIdeal.Steps

open Cert.KernelIdeal Cert.KernelIdeal.Gen Idealize.ShloMosaic.TcCoe
open Idealize.ShloMosaic

variable {F : FTy → Type} [FloatOps F]

/-- One GRU cell update of the state `h`: `g` is the step's input projection with its biases (all three gates), `wrz`
    and `wn` the recurrent weights of the reset/update gates and of the candidate, `bn` the candidate's recurrent bias. -/
def cell (wrz : FVec F S512x1024 .bf16) (wn : FVec F S512x512 .bf16) (bn : FVec F S1x512 .f32)
    (g : Vec F S16x1x1536 .f32) (h : FVec F S16x512 .f32) : FVec F S16x512 .f32 :=
  let g2 : FVec F S16x1536 .f32 := shapeCast S16x1536 g shapeCasts_S16x1x1536_S16x1536
  let hb : FVec F S16x512 .bf16 := truncf .bf16 h bitsLt_bf16_f32
  let prz : FVec F S16x1024 .f32 :=
    matmul dot_S16x512_S512x1024_S16x1024_1_0_0_1_n_n none hb wrz (constant S16x1024 .f32 0x00000000#32)
  let pn : FVec F S16x512 .f32 :=
    matmul dot_S16x512_S512x512_S16x512_1_0_0_1_n_n none hb wn (constant S16x512 .f32 0x00000000#32)
  let r : FVec F S16x512 .f32 := logistic
    (addf (extractStridedSlice S16x512 ![0, 0] g2 slices_S16x1536_o0_0_S16x512)
      (extractStridedSlice S16x512 ![0, 0] prz slices_S16x1024_o0_0_S16x512))
  let z : FVec F S16x512 .f32 := logistic
    (addf (extractStridedSlice S16x512 ![0, 512] g2 slices_S16x1536_o0_512_S16x512)
      (extractStridedSlice S16x512 ![0, 512] prz slices_S16x1024_o0_512_S16x512))
  let n : FVec F S16x512 .f32 := tanh
    (addf (extractStridedSlice S16x512 ![0, 1024] g2 slices_S16x1536_o0_1024_S16x512)
      (mulf r (addf pn (broadcastTo S16x512 bn broadcasts_S1x512_S16x512))))
  addf (mulf (subf (broadcast S16x512 (Scalar.ofBits .f32 0x3F800000#32)) z) n) (mulf z h)

/-- `x` in the rows whose length is past the time step `t`, zero in the others. -/
def maskRows (lens : IVec S16x1 32) (t : BitVec 32) (x : FVec F S16x512 .f32) : FVec F S16x512 .f32 :=
  select
    (broadcastTo S16x512 (shapeCast S16x1 (cmpi .sgt lens (broadcast S16x1 t)) shapeCasts_S16x1_S16x1)
      broadcasts_S16x1_S16x512)
    x (broadcast S16x512 (Scalar.ofBits .f32 0x00000000#32))

/-- The state after `n` of the block's steps. The steps go through the block's time steps from 63 down to 0: step `n`
    treats time step `base + (63 - n)` with the projections `G n`. -/
def state (base : BitVec 32) (lens : IVec S16x1 32) (wrz : FVec F S512x1024 .bf16) (wn : FVec F S512x512 .bf16)
    (bn : FVec F S1x512 .f32) (G : ℕ → Vec F S16x1x1536 .f32) (h0 : FVec F S16x512 .f32) : ℕ → FVec F S16x512 .f32
  | 0 => h0
  | n + 1 => maskRows lens (Scalar.addi base (BitVec.ofNat 32 (63 - n)))
      (cell wrz wn bn (G n) (state base lens wrz wn bn G h0 n))

/-- The row of projections of step `n` lies in the block. -/
theorem inb_proj (n : ℕ) : ∀ a, (![0, 63 - n, 0] : Fin 3 → ℕ) a + S16x1x1536.size a ≤ S16x64x1536.size a := by
  intro a; fin_cases a <;> simp
  omega

/-- The row of outputs of step `n` lies in the block. -/
theorem inb_row (n : ℕ) : ∀ a, (![0, 63 - n, 0] : Fin 3 → ℕ) a + (![16, 1, 512] : Fin 3 → ℕ) a ≤ S16x64x512.size a := by
  intro a; fin_cases a <;> simp
  omega

/-- What the first `n` steps store into the output block, the last store first: step `n` its state, as row `63 - n`. -/
def rows (H : ℕ → FVec F S16x512 .f32) : ℕ → List (View.Piece (Elt F) S16x64x512 .f32)
  | 0 => []
  | n + 1 => ⟨Rect.unit ![0, 63 - n, 0] ![16, 1, 512] (inb_row n),
      shapeCast S16x1x512 (H (n + 1)) shapeCasts_S16x512_S16x1x512⟩ :: rows H n

/-- The output block the first `n` steps leave, at a row they reached: the state after the steps down to that row. -/
theorem canon_rows (H : ℕ → FVec F S16x512 .f32) : ∀ (n : ℕ) (_ : n ≤ 64) (b : Fin 16) (k : Fin 64) (j : Fin 512),
    64 ≤ k.val + n → View.canon (rows H n) (ix3 b k j) = H (64 - k.val) (ix2 b j)
  | 0, _, b, k, j, h => by have := k.isLt; omega
  | n + 1, hn, b, k, j, h => by
    by_cases hk : k.val = 63 - n
    · have e : (ix3 b k j : S16x64x512.Idx)
          = (Rect.unit (s := S16x64x512) ![0, 63 - n, 0] ![16, 1, 512] (inb_row n)).emb (ix3 b 0 j : S16x1x512.Idx) := by
        funext a; apply Fin.ext
        fin_cases a
        · show b.val = 0 + 1 * b.val; omega
        · show k.val = (63 - n) + 1 * 0; omega
        · show j.val = 0 + 1 * j.val; omega
      rw [e]
      refine (View.canon_cons_emb _ _ _ _).trans ?_
      have e1 : 64 - k.val = n + 1 := by omega
      rw [e1]
      refine shapeCast_apply _ _ _ _ ?_
      simp [Shape.rowMajor_val_two, Shape.rowMajor_val_three]
    · refine (View.canon_cons_of_not_mem _ _ ?_).trans (canon_rows H n (by omega) b k j (by omega))
      rw [Rect.mem_set_unit]
      intro hall
      have h1 : 63 - n ≤ k.val ∧ k.val < 63 - n + 1 := hall 1
      omega

section
variable (c : Dev nD) (i : grid0.Coords) (arg1 : Memref sig .tc .vmem S16x64x512 .f32) (harg1 : arg1.IsWhole) (arg2 : Memref sig .tc .vmem S512x1536 .bf16) (harg2 : arg2.IsWhole) (arg3 : Memref sig .tc .vmem S1x1536 .f32) (harg3 : arg3.IsWhole) (arg4 : Memref sig .tc .vmem S512x1536 .bf16) (harg4 : arg4.IsWhole) (arg5 : Memref sig .tc .vmem S1x512 .f32) (harg5 : arg5.IsWhole) (arg6 : Memref sig .tc .vmem S16x1 .i32) (harg6 : arg6.IsWhole) (arg7 : Memref sig .tc .vmem S16x512 .f32) (harg7 : arg7.IsWhole) (arg8 : Memref sig .tc .vmem S16x64x512 .f32) (harg8 : arg8.IsWhole) (arg9 : Memref sig .tc .vmem S16x512 .f32) (harg9 : arg9.IsWhole) (arg10 : Memref sig .tc .vmem S16x64x1536 .f32) (harg10 : arg10.IsWhole)
    (x0 : Vec F S16x64x512 .f32) (x1 : Vec F S512x1536 .bf16) (x2 : Vec F S1x1536 .f32) (x3 : Vec F S512x1536 .bf16) (x4 : Vec F S1x512 .f32) (x5 : Vec F S16x1 .i32) (xs0 : Vec F S16x512 .f32)

/-- The states of a block whose buffers hold `x0` (inputs), `x1` (input weights), `x2` (input biases), `x3` (recurrent
    weights), `x4` (candidate's recurrent bias) and `x5` (lengths), from the state `h0`. -/
def blockState (base : BitVec 32) (h0 : FVec F S16x512 .f32) : ℕ → FVec F S16x512 .f32 :=
  state base (k0_pay2 x5)
    (k0_pay4 (View.ld x3 (Rect.unit ![0, 0] S512x1024.size inb_S512x1536_S512x1024_0_0)))
    (k0_pay5 (View.ld x3 (Rect.unit ![0, 1024] S512x512.size inb_S512x1536_S512x512_0_1024)))
    (k0_pay6 x4)
    (fun n => View.ld (k0_pay3 x0 x1 x2) (Rect.unit (s := S16x64x1536) ![0, 63 - n, 0] S16x1x1536.size (inb_proj n))) h0

/-- The states of a block that is not the first, over the values the body read. -/
def stateB : ℕ → FVec F S16x512 .f32 :=
  state (kernelRun0_B.sl.v4 i) (kernelRun0_B.sl.r c arg6 harg6 x5) (kernelRun0_B.sl.r_1 c arg4 harg4 x3)
    (kernelRun0_B.sl.r_2 c arg4 harg4 x3) (kernelRun0_B.sl.r_3 c arg5 harg5 x4)
    (fun n => arg10.view.readCov (kernelRun0_B.sl.HS1_1 c arg1 harg1 arg2 harg2 arg3 harg3 x0 x1 x2)
      (Rect.unit (s := S16x64x1536) ![0, 63 - n, 0] S16x1x1536.size (inb_proj n)).toLoadRect)
    (kernelRun0_B.sl.r_4 c arg9 harg9 xs0)

/-- The states of the first block, over the values the body read. -/
def stateA : ℕ → FVec F S16x512 .f32 :=
  state (kernelRun0_A.sl.v4 i) (kernelRun0_A.sl.r c arg6 harg6 x5) (kernelRun0_A.sl.r_1 c arg4 harg4 x3)
    (kernelRun0_A.sl.r_2 c arg4 harg4 x3) (kernelRun0_A.sl.r_3 c arg5 harg5 x4)
    (fun n => arg10.view.readCov (kernelRun0_A.sl.HS1_1 c arg1 harg1 arg2 harg2 arg3 harg3 x0 x1 x2)
      (Rect.unit (s := S16x64x1536) ![0, 63 - n, 0] S16x1x1536.size (inb_proj n)).toLoadRect)
    (kernelRun0_A.sl.v27 c arg9)

/-- They are the block's states from the state the scratch held. -/
theorem stateB_eq :
    stateB c i arg1 harg1 arg2 harg2 arg3 harg3 arg4 harg4 arg5 harg5 arg6 harg6 arg9 harg9 arg10 x0 x1 x2 x3 x4 x5 xs0
      = blockState x0 x1 x2 x3 x4 x5 (kernelRun0_B.sl.v4 i) xs0 := by
  unfold stateB blockState kernelRun0_B.sl.r kernelRun0_B.sl.r_1 kernelRun0_B.sl.r_2 kernelRun0_B.sl.r_3 kernelRun0_B.sl.r_4
    kernelRun0_B.sl.HS1_1
  simp only [View.readAt_eq_ld, Memref.IsWhole.read_unread, View.readCov_eq_canon']
  rw [View.ld_unit_lit _ x5 (by decide), View.ld_unit_lit _ x4 (by decide), View.ld_unit_lit _ x0 (by decide),
    View.ld_unit_lit _ x1 (by decide), View.ld_unit_lit _ x2 (by decide), View.ld_unit_lit _ xs0 (by decide),
    View.canon_cons_unit_lit _ _ _ (by decide)]

/-- They are the block's states from the zero state. -/
theorem stateA_eq :
    stateA c i arg1 harg1 arg2 harg2 arg3 harg3 arg4 harg4 arg5 harg5 arg6 harg6 arg9 arg10 x0 x1 x2 x3 x4 x5
      = blockState x0 x1 x2 x3 x4 x5 (kernelRun0_A.sl.v4 i) k0_pay1 := by
  unfold stateA blockState kernelRun0_A.sl.r kernelRun0_A.sl.r_1 kernelRun0_A.sl.r_2 kernelRun0_A.sl.r_3
    kernelRun0_A.sl.HS1_1 kernelRun0_A.sl.v27 kernelRun0_A.sl.HS0_1
  simp only [View.readAt_eq_ld, Memref.IsWhole.read_unread, View.readCov_eq_canon']
  rw [View.ld_unit_lit _ x5 (by decide), View.ld_unit_lit _ x4 (by decide), View.ld_unit_lit _ x0 (by decide),
    View.ld_unit_lit _ x1 (by decide), View.ld_unit_lit _ x2 (by decide),
    View.canon_cons_unit_lit _ _ _ (by decide), View.canon_cons_unit_lit _ _ _ (by decide)]
  rfl

/-- What a block of case B stores into the output: its states, one row each. -/
theorem rowsB_eq (hc0 : ¬cond0_0 i) :
    (kernelRun0_B c i arg1 harg1 arg2 harg2 arg3 harg3 arg4 harg4 arg5 harg5 arg6 harg6 arg7 harg7 arg8 harg8 arg9 harg9 arg10 harg10 hc0 x0 x1 x2 x3 x4 x5 xs0).2.1 = rows (stateB c i arg1 harg1 arg2 harg2 arg3 harg3 arg4 harg4 arg5 harg5 arg6 harg6 arg9 harg9 arg10 x0 x1 x2 x3 x4 x5 xs0) 64 := rfl

/-- What it leaves in the output's buffer: row `k` is the state after the steps down to `k`. -/
theorem outB7_apply (hc0 : ¬cond0_0 i) (b : Fin 16) (k : Fin 64) (j : Fin 512) :
    out0_B_7 c i arg1 harg1 arg2 harg2 arg3 harg3 arg4 harg4 arg5 harg5 arg6 harg6 arg7 harg7 arg8 harg8 arg9 harg9 arg10 harg10 hc0 x0 x1 x2 x3 x4 x5 xs0 (ix3 b k j)
      = blockState x0 x1 x2 x3 x4 x5 (kernelRun0_B.sl.v4 i) xs0 (64 - k.val) (ix2 b j) := by
  unfold out0_B_7
  rw [View.read_writes_junk_eq_canon, rowsB_eq, canon_rows _ 64 le_rfl b k j (by omega), stateB_eq]

/-- What it leaves in the final state's buffer: the state after all 64 steps. -/
theorem outB6_eq (hc0 : ¬cond0_0 i) :
    out0_B_6 c i arg1 harg1 arg2 harg2 arg3 harg3 arg4 harg4 arg5 harg5 arg6 harg6 arg7 harg7 arg8 harg8 arg9 harg9 arg10 harg10 hc0 x0 x1 x2 x3 x4 x5 xs0 = blockState x0 x1 x2 x3 x4 x5 (kernelRun0_B.sl.v4 i) xs0 64 := by
  unfold out0_B_6
  rw [View.read_writes_junk_eq_canon, ← stateB_eq c i arg1 harg1 arg2 harg2 arg3 harg3 arg4 harg4 arg5 harg5 arg6 harg6 arg9 harg9 arg10]
  exact View.canon_cons_unit_lit inb_S16x512_S16x512_0_0 _ [] (by decide)

/-- What it leaves in the scratch the next block starts from: the same state. -/
theorem soutB_eq (hc0 : ¬cond0_0 i) :
    sout0_B_0 c i arg1 harg1 arg2 harg2 arg3 harg3 arg4 harg4 arg5 harg5 arg6 harg6 arg7 harg7 arg8 harg8 arg9 harg9 arg10 harg10 hc0 x0 x1 x2 x3 x4 x5 xs0 = blockState x0 x1 x2 x3 x4 x5 (kernelRun0_B.sl.v4 i) xs0 64 := by
  unfold sout0_B_0
  rw [View.read_writes_junk_eq_canon, ← stateB_eq c i arg1 harg1 arg2 harg2 arg3 harg3 arg4 harg4 arg5 harg5 arg6 harg6 arg9 harg9 arg10]
  refine (View.canon_cons_unit_lit inb_S16x512_S16x512_0_0 _ _ (by decide)).trans ?_
  exact shapeCast_self _ _

/-- What a block of case A stores into the output: its states, one row each. -/
theorem rowsA_eq (hc0 : cond0_0 i) :
    (kernelRun0_A c i arg1 harg1 arg2 harg2 arg3 harg3 arg4 harg4 arg5 harg5 arg6 harg6 arg7 harg7 arg8 harg8 arg9 harg9 arg10 harg10 hc0 x0 x1 x2 x3 x4 x5).2.1 = rows (stateA c i arg1 harg1 arg2 harg2 arg3 harg3 arg4 harg4 arg5 harg5 arg6 harg6 arg9 arg10 x0 x1 x2 x3 x4 x5) 64 := rfl

/-- What it leaves in the output's buffer: row `k` is the state after the steps down to `k`. -/
theorem outA7_apply (hc0 : cond0_0 i) (b : Fin 16) (k : Fin 64) (j : Fin 512) :
    out0_A_7 c i arg1 harg1 arg2 harg2 arg3 harg3 arg4 harg4 arg5 harg5 arg6 harg6 arg7 harg7 arg8 harg8 arg9 harg9 arg10 harg10 hc0 x0 x1 x2 x3 x4 x5 (ix3 b k j)
      = blockState x0 x1 x2 x3 x4 x5 (kernelRun0_A.sl.v4 i) k0_pay1 (64 - k.val) (ix2 b j) := by
  unfold out0_A_7
  rw [View.read_writes_junk_eq_canon, rowsA_eq, canon_rows _ 64 le_rfl b k j (by omega), stateA_eq]

/-- What it leaves in the final state's buffer: the state after all 64 steps. -/
theorem outA6_eq (hc0 : cond0_0 i) :
    out0_A_6 c i arg1 harg1 arg2 harg2 arg3 harg3 arg4 harg4 arg5 harg5 arg6 harg6 arg7 harg7 arg8 harg8 arg9 harg9 arg10 harg10 hc0 x0 x1 x2 x3 x4 x5 = blockState x0 x1 x2 x3 x4 x5 (kernelRun0_A.sl.v4 i) k0_pay1 64 := by
  unfold out0_A_6
  rw [View.read_writes_junk_eq_canon, ← stateA_eq c i arg1 harg1 arg2 harg2 arg3 harg3 arg4 harg4 arg5 harg5 arg6 harg6 arg9 arg10]
  exact View.canon_cons_unit_lit inb_S16x512_S16x512_0_0 _ [] (by decide)

/-- What it leaves in the scratch the next block starts from: the same state. -/
theorem soutA_eq (hc0 : cond0_0 i) :
    sout0_A_0 c i arg1 harg1 arg2 harg2 arg3 harg3 arg4 harg4 arg5 harg5 arg6 harg6 arg7 harg7 arg8 harg8 arg9 harg9 arg10 harg10 hc0 x0 x1 x2 x3 x4 x5 = blockState x0 x1 x2 x3 x4 x5 (kernelRun0_A.sl.v4 i) k0_pay1 64 := by
  unfold sout0_A_0
  rw [View.read_writes_junk_eq_canon, ← stateA_eq c i arg1 harg1 arg2 harg2 arg3 harg3 arg4 harg4 arg5 harg5 arg6 harg6 arg9 arg10]
  refine (View.canon_cons_unit_lit inb_S16x512_S16x512_0_0 _ _ (by decide)).trans ?_
  exact shapeCast_self _ _

end

end Cert.KernelIdeal.Steps

end
-- ==== Proof.KernelBlock.lean ====
/- One block of the kernel over the extended reals: from the state the block starts with, its 64 steps are 64 updates of
   the recurrence from the end of the sequence. -/
module

public import proofs.«01_k».proof.Proof.Gru
public import proofs.«01_k».proof.Proof.Steps

@[expose] public section

set_option maxRecDepth 16384

noncomputable section

namespace Cert.KernelIdeal.Steps

open Cert.KernelIdeal Cert.KernelIdeal.Gen Idealize.ShloMosaic.TcCoe
open Idealize.ShloMosaic Cert.Gru

/-- A cell update at an entry is the GRU update of that row, once each operand the cell reads is the one the recurrence
    names: the weights transposed, the two biases of the reset and update gates already added together. -/
theorem cell_apply (a : Args) (wrz : FVec Ideal S512x1024 .bf16) (wn : FVec Ideal S512x512 .bf16) (bn : FVec Ideal S1x512 .f32)
    (g : Vec Ideal S16x1x1536 .f32) (h : FVec Ideal S16x512 .f32) (b : Fin 16) (t : Fin 512) (s : Fin 512 → EReal) (j : Fin 512)
    (hh : ∀ d, h (ix2 b d) = s d)
    (hr : ∀ d, wrz (ix2 d ⟨j.val, by omega⟩) = a.whh (colR j) d) (hz : ∀ d, wrz (ix2 d ⟨512 + j.val, by omega⟩) = a.whh (colZ j) d)
    (hn : ∀ d, wn (ix2 d j) = a.whh (colN j) d) (hb : bn (ix2 0 j) = a.bhh (colN j))
    (gr : g (ix3 b 0 (colR j)) = dot a.wih (a.x b t) (colR j) + (a.bih (colR j) + a.bhh (colR j)))
    (gz : g (ix3 b 0 (colZ j)) = dot a.wih (a.x b t) (colZ j) + (a.bih (colZ j) + a.bhh (colZ j)))
    (gn : g (ix3 b 0 (colN j)) = dot a.wih (a.x b t) (colN j) + a.bih (colN j)) :
    cell wrz wn bn g h (ix2 b j) = a.gru b t s j := by
  have e : ∀ p q u v : EReal, p + (q + u) + v = p + q + (v + u) := fun p q u v => by
    rw [add_assoc, add_assoc, add_assoc, add_comm u v]
  unfold colR at gr; unfold colZ at gz; unfold colN at gn
  pointwise [cell]
  simp only [hh, hr, hz, hn, hb, gr, gz, gn, e]
  rfl

/-- Masking keeps a row whose length is past the step and clears the others. -/
theorem maskRows_apply (lens : IVec S16x1 32) (t : BitVec 32) (x : FVec Ideal S16x512 .f32) (b : Fin 16) (j : Fin 512) :
    maskRows lens t x (ix2 b j) = if t.slt (lens (ix2 b 0)) then x (ix2 b j) else 0 := by
  pointwise [maskRows]
  unfold Scalar.select IntOp.cmpi
  cases t.slt (lens (ix2 b 0)) <;> rfl

/-- The block's input projections: the inputs against the input weights, plus the bias row. -/
theorem pay3_apply (x0 : Vec Ideal S16x64x512 .f32) (x1 : Vec Ideal S512x1536 .bf16) (x2 : Vec Ideal S1x1536 .f32)
    (b : Fin 16) (k : Fin 64) (q : Fin 1536) :
    k0_pay3 x0 x1 x2 (ix3 b k q) = (∑ d : Fin 512, x0 (ix3 b k d) * x1 (ix2 d q)) + x2 (ix2 0 q) := by
  pointwise [k0_pay3]

/-- The projections of step `n` are row `63 - n` of the block's. -/
theorem ld_proj (X : Vec Ideal S16x64x1536 .f32) (n : ℕ) (b : Fin 16) (q : Fin 1536) :
    View.ld X (Rect.unit (s := S16x64x1536) ![0, 63 - n, 0] S16x1x1536.size (inb_proj n)) (ix3 b 0 q)
      = X (ix3 b ⟨63 - n, by omega⟩ q) := by
  pointwise [View.ld]

/-- The first 1024 columns of the recurrent weights. -/
theorem ld_rz (X : Vec Ideal S512x1536 .bf16) (d : Fin 512) (q : Fin 1024) :
    k0_pay4 (View.ld X (Rect.unit ![0, 0] S512x1024.size inb_S512x1536_S512x1024_0_0)) (ix2 d q) = X (ix2 d ⟨q.val, by omega⟩) := by
  pointwise [k0_pay4, View.ld]

/-- Their last 512 columns. -/
theorem ld_n (X : Vec Ideal S512x1536 .bf16) (d : Fin 512) (j : Fin 512) :
    k0_pay5 (View.ld X (Rect.unit ![0, 1024] S512x512.size inb_S512x1536_S512x512_0_1024)) (ix2 d j) = X (ix2 d (colN j)) := by
  pointwise [k0_pay5, View.ld]
  rfl

/-- What a block's buffers hold, in the recurrence's terms: `x0` the inputs of the 64 time steps from `64 * (7 - p)` on,
    the weights transposed, the biases added together where the kernel adds them on the host, the lengths as a column. -/
structure Holds (a : Args) (p : ℕ) (hp : p < 8) (x0 : Vec Ideal S16x64x512 .f32) (x1 : Vec Ideal S512x1536 .bf16)
    (x2 : Vec Ideal S1x1536 .f32) (x3 : Vec Ideal S512x1536 .bf16) (x4 : Vec Ideal S1x512 .f32) (x5 : Vec Ideal S16x1 .i32) : Prop where
  inp : ∀ (b : Fin 16) (k : Fin 64) (d : Fin 512), x0 (ix3 b k d) = a.x b ⟨64 * (7 - p) + k.val, by omega⟩ d
  wih : ∀ (d : Fin 512) (q : Fin 1536), x1 (ix2 d q) = a.wih q d
  biasR : ∀ j : Fin 512, x2 (ix2 0 (colR j)) = a.bih (colR j) + a.bhh (colR j)
  biasZ : ∀ j : Fin 512, x2 (ix2 0 (colZ j)) = a.bih (colZ j) + a.bhh (colZ j)
  biasN : ∀ j : Fin 512, x2 (ix2 0 (colN j)) = a.bih (colN j)
  whh : ∀ (d : Fin 512) (q : Fin 1536), x3 (ix2 d q) = a.whh q d
  bhn : ∀ j : Fin 512, x4 (ix2 0 j) = a.bhh (colN j)
  len : ∀ b : Fin 16, x5 (ix2 b 0) = a.len b

/-- The time step of step `n` of block `p`. -/
theorem step_time (p n : ℕ) (hp : p < 8) (hn : n < 64) (base : BitVec 32) (hbase : base = BitVec.ofNat 32 (64 * (7 - p))) :
    Scalar.addi base (BitVec.ofNat 32 (63 - n)) = BitVec.ofNat 32 (511 - (64 * p + n)) := by
  subst hbase
  show BitVec.ofNat 32 _ + BitVec.ofNat 32 _ = _
  rw [← BitVec.ofNat_add]
  congr 1; omega

/-- After `n` steps of block `p`, started at the state after the `64 * p` last time steps, every row is at its state after
    the `64 * p + n` last time steps. -/
theorem blockState_apply (a : Args) (p : ℕ) (hp : p < 8) (x0 : Vec Ideal S16x64x512 .f32) (x1 : Vec Ideal S512x1536 .bf16)
    (x2 : Vec Ideal S1x1536 .f32) (x3 : Vec Ideal S512x1536 .bf16) (x4 : Vec Ideal S1x512 .f32) (x5 : Vec Ideal S16x1 .i32)
    (H : Holds a p hp x0 x1 x2 x3 x4 x5) (base : BitVec 32) (hbase : base = BitVec.ofNat 32 (64 * (7 - p)))
    (h0 : FVec Ideal S16x512 .f32) (hh : ∀ b j, h0 (ix2 b j) = a.back b (64 * p) j) :
    ∀ (n : ℕ) (_ : n ≤ 64) (b : Fin 16) (j : Fin 512),
      blockState x0 x1 x2 x3 x4 x5 base h0 n (ix2 b j) = a.back b (64 * p + n) j
  | 0, _, b, j => hh b j
  | n + 1, hn, b, j => by
    have ih := blockState_apply a p hp x0 x1 x2 x3 x4 x5 H base hbase h0 hh n (by omega) b
    have hx : ∀ q : Fin 1536, (∑ d : Fin 512, x0 (ix3 b ⟨63 - n, by omega⟩ d) * x1 (ix2 d q))
        = dot a.wih (a.x b ⟨511 - (64 * p + n), by omega⟩) q := fun q => by
      unfold dot
      refine Finset.sum_congr rfl fun d _ => ?_
      rw [H.inp, H.wih]
      have ht : (⟨64 * (7 - p) + (63 - n), by omega⟩ : Fin 512) = ⟨511 - (64 * p + n), by omega⟩ := Fin.ext (by
        show 64 * (7 - p) + (63 - n) = 511 - (64 * p + n); omega)
      exact congrArg (fun t => a.x b t d * a.wih q d) ht
    show maskRows (k0_pay2 x5) _ (cell _ _ _ _ (blockState x0 x1 x2 x3 x4 x5 base h0 n)) (ix2 b j) = _
    rw [maskRows_apply, step_time p n hp (by omega) base hbase]
    have hl : k0_pay2 x5 (ix2 b 0) = a.len b := (by pointwise [k0_pay2] : k0_pay2 x5 (ix2 b 0) = x5 (ix2 b 0)).trans (H.len b)
    rw [hl]
    show _ = if _ then _ else _
    refine if_congr Iff.rfl ?_ rfl
    refine cell_apply a _ _ _ _ _ b _ (a.back b (64 * p + n)) j ih (fun d => ?_) (fun d => ?_) (fun d => ?_) ?_ ?_ ?_ ?_
    · rw [ld_rz, H.whh]; rfl
    · rw [ld_rz, H.whh]; rfl
    · rw [ld_n, H.whh]
    · exact (by pointwise [k0_pay6] : k0_pay6 x4 (ix2 0 j) = x4 (ix2 0 j)).trans (H.bhn j)
    · exact (ld_proj _ n b _).trans (by rw [pay3_apply, hx, H.biasR]; rfl)
    · exact (ld_proj _ n b _).trans (by rw [pay3_apply, hx, H.biasZ]; rfl)
    · exact (ld_proj _ n b _).trans (by rw [pay3_apply, hx, H.biasN]; rfl)

end Cert.KernelIdeal.Steps

end
-- ==== Proof.KernelValue.lean ====
/- The kernel's two results over the extended reals: the state of every row after the whole sequence, and its state at
   every time step, as the recurrence from the end of the sequence. -/
module

public import proofs.«01_k».proof.Proof.KernelBlock
public import proofs.«01_k».proof.Proof.Gen.KernelIdeal.Value
public import Idealize.ShloMosaic.Lib.Claim

@[expose] public section

set_option maxRecDepth 16384

noncomputable section

namespace Cert.KernelIdeal.Steps

open Cert.KernelIdeal Cert.KernelIdeal.Gen Cert.KernelIdeal.Value Idealize.ShloMosaic.TcCoe
open Idealize.ShloMosaic Cert.Gru

variable (m : (ℓ : Loc nD τ sig) → Buf (Elt Ideal) ℓ) (c : Dev nD)

/-- The kernel's arguments on device `c`. -/
def args : Args := argsOf (m ((c : Thread nD τ).loc main_arg0)) (m ((c : Thread nD τ).loc main_arg1))
  (m ((c : Thread nD τ).loc main_arg2)) (m ((c : Thread nD τ).loc main_arg3))
  (m ((c : Thread nD τ).loc main_arg4)) (m ((c : Thread nD τ).loc main_arg5))

/-- The grid has 8 points. -/
theorem lt8 (t : Fin cfg0.N) : t.val < 8 := lt_of_lt_of_eq t.isLt N_0

/-- Every window's block index at a grid point: the inputs' and the outputs' time block is the point's, counted from the
    end; every other window is the whole of its array. -/
theorem idx : ∀ t : Fin cfg0.N, win0_0.index t = ![0, 7 - t.val, 0] ∧ win0_1.index t = ![0, 0] ∧ win0_2.index t = ![0, 0]
    ∧ win0_3.index t = ![0, 0] ∧ win0_4.index t = ![0, 0] ∧ win0_5.index t = ![0, 0] ∧ win0_6.index t = ![0, 0]
    ∧ win0_7.index t = ![0, 7 - t.val, 0] :=
  (by decide +kernel : ∀ t : Fin grid0.N, win0_0.index t = ![0, 7 - t.val, 0] ∧ win0_1.index t = ![0, 0] ∧ win0_2.index t = ![0, 0]
    ∧ win0_3.index t = ![0, 0] ∧ win0_4.index t = ![0, 0] ∧ win0_5.index t = ![0, 0] ∧ win0_6.index t = ![0, 0]
    ∧ win0_7.index t = ![0, 7 - t.val, 0])

/-- The first time step of a point's block. -/
theorem baseA : ∀ t : Fin cfg0.N, kernelRun0_A.sl.v4 (grid0.coords t) = BitVec.ofNat 32 (64 * (7 - t.val)) :=
  (by decide +kernel : ∀ t : Fin grid0.N, kernelRun0_A.sl.v4 (grid0.coords t) = BitVec.ofNat 32 (64 * (7 - t.val)))
theorem baseB : ∀ t : Fin cfg0.N, kernelRun0_B.sl.v4 (grid0.coords t) = BitVec.ofNat 32 (64 * (7 - t.val)) :=
  (by decide +kernel : ∀ t : Fin grid0.N, kernelRun0_B.sl.v4 (grid0.coords t) = BitVec.ofNat 32 (64 * (7 - t.val)))

/-- The bias row the host makes: the two biases added in the reset and update gates' columns, the input bias alone in the
    candidate's. -/
theorem bias (q : Fin 1536) : V m c main_v9 (ix2 0 q)
    = if _ : q.val < 1024 then (args m c).bih q + (args m c).bhh q else (args m c).bih q := by
  have hq := q.isLt
  entry_read
  pointwise
  by_cases h : q.val < 1024
  · rw [dif_pos h, dif_pos h]; rfl
  · rw [dif_neg h, dif_neg h]
    refine congrArg (fun q : Fin 1536 => m (c, Proc.tc.devRef main_arg4) (ix1 q)) (Fin.ext ?_)
    show 1024 + (q.val - 1024) = q.val
    omega

/-- The blocks a point's body finds are the recurrence's data for its time block. -/
theorem holds (t : Fin cfg0.N) : Holds (args m c) t.val (lt8 t) (iblk m c 0 t) (iblk m c 1 t) (iblk m c 2 t) (iblk m c 3 t)
    (iblk m c 4 t) (iblk m c 5 t) where
  inp b k d := by
    show _ = m ((c : Thread nD τ).loc main_arg0) (ix3 _ _ _)
    blk_ext [iblk, V, idx t]
  wih d q := by
    have e : iblk m c 1 t (ix2 d q) = V m c main_v1 (ix2 d q) := by blk_ext [iblk, idx t]
    rw [e]
    show _ = m ((c : Thread nD τ).loc main_arg2) (ix2 q d)
    entry_read
    pointwise
  biasR j := by
    have e : iblk m c 2 t (ix2 0 (colR j)) = V m c main_v9 (ix2 0 (colR j)) := by blk_ext [iblk, idx t]
    rw [e, bias, dif_pos (by show j.val < 1024; omega)]
  biasZ j := by
    have e : iblk m c 2 t (ix2 0 (colZ j)) = V m c main_v9 (ix2 0 (colZ j)) := by blk_ext [iblk, idx t]
    rw [e, bias, dif_pos (by show 512 + j.val < 1024; omega)]
  biasN j := by
    have e : iblk m c 2 t (ix2 0 (colN j)) = V m c main_v9 (ix2 0 (colN j)) := by blk_ext [iblk, idx t]
    rw [e, bias, dif_neg (by show ¬1024 + j.val < 1024; omega)]
  whh d q := by
    have e : iblk m c 3 t (ix2 d q) = V m c main_v3 (ix2 d q) := by blk_ext [iblk, idx t]
    rw [e]
    show _ = m ((c : Thread nD τ).loc main_arg3) (ix2 q d)
    entry_read
    pointwise
  bhn j := by
    have e : iblk m c 4 t (ix2 0 j) = V m c main_v11 (ix2 0 j) := by blk_ext [iblk, idx t]
    rw [e]
    show _ = m ((c : Thread nD τ).loc main_arg5) (ix1 _)
    entry_read
    pointwise
    rfl
  len b := by
    have e : iblk m c 5 t (ix2 b 0) = V m c main_v12 (ix2 b 0) := by blk_ext [iblk, idx t]
    rw [e]
    show _ = m ((c : Thread nD τ).loc main_arg1) (ix1 _)
    entry_read
    pointwise

/-- After point `n` the carried scratch is every row's state after the `64 * (n + 1)` last time steps. -/
theorem scratch : ∀ (n : ℕ) (hn : n < cfg0.N) (b : Fin 16) (j : Fin 512),
    (outsAt0 m c n hn).2.2 (ix2 b j) = (args m c).back b (64 * n + 64) j
  | 0, hn, b, j => by
    rw [outsAt0_A m c ⟨0, hn⟩ rfl]
    dsimp only
    rw [soutA_eq]
    exact blockState_apply (args m c) 0 (by omega) _ _ _ _ _ _ (holds m c ⟨0, hn⟩) _ (baseA ⟨0, hn⟩) _
      (fun b j => by pointwise [k0_pay1]; rfl) 64 le_rfl b j
  | n + 1, hn, b, j => by
    have h8 := lt8 ⟨n + 1, hn⟩
    rw [outsAt0_B m c ⟨n + 1, hn⟩ (by show ¬(n + 1) % 8 = 0; dsimp only at h8; omega)]
    dsimp only
    rw [soutB_eq]
    exact blockState_apply (args m c) (n + 1) h8 _ _ _ _ _ _ (holds m c ⟨n + 1, hn⟩) _ (baseB ⟨n + 1, hn⟩) _
      (fun b j => scratch n _ b j) 64 le_rfl b j

/-- What point `t` leaves in the output's buffer: row `k` is the state after the last time steps down to that row. -/
theorem out7 (t : Fin cfg0.N) (b : Fin 16) (k : Fin 64) (j : Fin 512) :
    (outsAt0 m c t.val t.isLt).2.1 (ix3 b k j) = (args m c).back b (64 * t.val + (64 - k.val)) j := by
  have h8 := lt8 t
  by_cases h0 : t.val % 8 = 0
  · rw [outsAt0_A m c t h0]
    dsimp only
    rw [outA7_apply]
    exact blockState_apply (args m c) t.val h8 _ _ _ _ _ _ (holds m c t) _ (baseA t) _
      (fun b j => by pointwise [k0_pay1]; rw [show 64 * t.val = 0 by omega]; rfl) _ (by omega) b j
  · rw [outsAt0_B m c t h0]
    dsimp only
    rw [outB7_apply]
    exact blockState_apply (args m c) t.val h8 _ _ _ _ _ _ (holds m c t) _ (baseB t) _
      (fun b j => (scratch m c (t.val - 1) _ b j).trans (by congr 1; omega)) _ (by omega) b j

/-- What a point leaves in the final state's buffer is what it leaves in the scratch. -/
theorem out6 (t : Fin cfg0.N) : (outsAt0 m c t.val t.isLt).1 = (outsAt0 m c t.val t.isLt).2.2 := by
  by_cases h0 : t.val % 8 = 0
  · rw [outsAt0_A m c t h0]
    dsimp only
    rw [outA6_eq, soutA_eq]
  · rw [outsAt0_B m c t h0]
    dsimp only
    rw [outB6_eq, soutB_eq]

/-- The outputs as the recurrence's states: at time `t`, the state after the last time steps down to `t`. -/
def outs (a : Args) : FVec Ideal S16x512x512 .f32 := fun i => a.back (i 0) (512 - (i 1).val) (i 2)
/-- The final state: every row's state after the whole sequence. -/
def final (a : Args) : FVec Ideal S16x512 .f32 := fun i => a.back (i 0) 512 (i 1)

/-- The output array after the run. -/
theorem arr7 : (dats m 0 c).arrAt 7 cfg0.N = outs (args m c) := by
  refine (dats m 0 c).arrAt_eq_of_covers 7 _ (by decide +kernel) fun t hf y => ?_
  blk_simp
  rw [after0_7]
  idx_vars y
  rw [out7]
  have h8 := lt8 t
  have e : ((View.whole main_v13_1).slice (win0_7.rect t)).emb (ix3 y0 y1 y2)
      = (ix3 y0 ⟨64 * (7 - t.val) + y1.val, by omega⟩ y2 : S16x512x512.Idx) := by blk_ext [idx t]
  rw [e]
  show _ = (args m c).back y0 (512 - (64 * (7 - t.val) + y1.val)) y2
  congr 1; omega

/-- The final state is written back at the last point only. -/
theorem last : ∀ t : Fin cfg0.N, win0_6.flush t = true → t.val = 7 :=
  (by decide +kernel : ∀ t : Fin grid0.N, win0_6.flush t = true → t.val = 7)

/-- The final state's array after the run. -/
theorem arr6 : (dats m 0 c).arrAt 6 cfg0.N = final (args m c) := by
  refine (dats m 0 c).arrAt_eq_of_covers 6 _ (by decide +kernel) fun t hf y => ?_
  blk_simp
  rw [after0_6, out6]
  idx_vars y
  rw [scratch]
  have h7 : t.val = 7 := last t hf
  have e : ((View.whole main_v13_0).slice (win0_6.rect t)).emb (ix2 y0 y1) = (ix2 y0 y1 : S16x512.Idx) := by blk_ext [idx t]
  rw [e, h7]
  rfl

end Cert.KernelIdeal.Steps

end
-- ==== Proof.ReferenceStep.lean ====
/- One trip of the reference's loop over the extended reals, and the reversal of the valid prefix before and after the
   loop, each read at an entry. -/
module

public import proofs.«01_k».proof.Proof.Gru
public import proofs.«01_k».proof.Proof.Gen.ReferenceIdeal.Run
public import Idealize.ShloMosaic.Lib.Pointwise
public import Idealize.ShloMosaic.Lib.DynamicIndex

@[expose] public section

set_option maxRecDepth 16384

noncomputable section

namespace Cert.ReferenceIdeal.Steps

open Cert.ReferenceIdeal Cert.ReferenceIdeal.Gen Cert.ReferenceIdeal.Value
open Idealize.ShloMosaic Idealize.ShloMosaic.TcCoe Idealize.ShloMosaic.StableHlo Cert.Gru

/-- A select on a decided bit is the `if` on it. -/
theorem select_ofBool {α : Type} (p : Bool) (x y : α) : Scalar.select (BitVec.ofBool p) x y = if p then x else y := by
  cases p <;> rfl

/-! ## The reversal of the valid prefix -/

/-- The time step each entry is taken from: `len - 1 - t` below the row's length, `t` itself past it. -/
def pick (lens : IVec S16 32) : IVec S16x512 32 :=
  select (cmpi .slt (broadcastInDim S16x512 ![0, 1] bcast_S1x512_S16x512_0_1 (broadcastInDim S1x512 ![1] bcast_S512_S1x512_1 (iotaInDim S512 32 0)))
      (broadcastInDim S16x512 ![0, 1] bcast_S16x1_S16x512_0_1 (broadcastInDim S16x1 ![0] bcast_S16_S16x1_0 lens)))
    (subi (broadcastInDim S16x512 ![0, 1] bcast_S16x1_S16x512_0_1 (subi (broadcastInDim S16x1 ![0] bcast_S16_S16x1_0 lens)
        (broadcastInDim S16x1 ![] bcast_S_S16x1 (constantI S_ 32 1#32))))
      (broadcastInDim S16x512 ![0, 1] bcast_S1x512_S16x512_0_1 (broadcastInDim S1x512 ![1] bcast_S512_S1x512_1 (iotaInDim S512 32 0))))
    (broadcastInDim S16x512 ![0, 1] bcast_S1x512_S16x512_0_1 (broadcastInDim S1x512 ![1] bcast_S512_S1x512_1 (iotaInDim S512 32 0)))

/-- The same as the gather's start indices, a negative one counted from the end. -/
def starts (lens : IVec S16 32) : IVec S16x512x1 32 :=
  select (cmpi .slt (broadcastInDim S16x512x1 ![0, 1] bcast_S16x512_S16x512x1_0_1 (pick lens)) (broadcastInDim S16x512x1 ![] bcast_S_S16x512x1 (constantI S_ 32 0#32)))
    (addi (broadcastInDim S16x512x1 ![0, 1] bcast_S16x512_S16x512x1_0_1 (pick lens)) (broadcastInDim S16x512x1 ![] bcast_S_S16x512x1 (constantI S_ 32 512#32)))
    (broadcastInDim S16x512x1 ![0, 1] bcast_S16x512_S16x512x1_0_1 (pick lens))

/-- The array with the valid prefix of every row reversed. -/
def turned (x : FVec Ideal S16x512x512 .f32) (lens : IVec S16 32) : FVec Ideal S16x512x512 .f32 :=
  Host.gather gather_S16x512x512_S16x512x1_S16x512x512_2_1_0_0_1_2_11512 x (starts lens)

/-- The time step an entry is taken from, and the gather's start index for it, as words. -/
theorem starts_apply (lens : IVec S16 32) (b : Fin 16) (t : Fin 512) (p : BitVec 32)
    (hp : p = if (BitVec.ofNat 32 t.val).slt (lens (ix1 b)) then lens (ix1 b) - 1#32 - BitVec.ofNat 32 t.val else BitVec.ofNat 32 t.val) :
    starts lens (ix3 b t 0) = if p.slt 0#32 then p + 512#32 else p := by
  have e : Scalar.select (IntOp.cmpi .slt (BitVec.ofNat 32 t.val) (lens (ix1 b)))
      (IntOp.subi (IntOp.subi (lens (ix1 b)) 1#32) (BitVec.ofNat 32 t.val)) (BitVec.ofNat 32 t.val) = p := by
    rw [hp]; exact select_ofBool ..
  pointwise [starts, pick]
  rw [e]
  exact select_ofBool ..

/-- The gather's dimension numbers. -/
abbrev takeD : GatherDims S16x512x512 S16x512x1 S16x512x512 := gather_S16x512x512_S16x512x1_S16x512x512_2_1_0_0_1_2_11512

/-- On the time axis the gather's start is its start index, clamped into the axis. -/
theorem start_time (idx : IVec S16x512x1 32) (b : Fin 16) (t j : Fin 512) :
    takeD.start (ix3 b t j) idx (1 : Fin 3) = min (idx (ix3 b t 0)).toInt.toNat 511 := by
  have e : ∀ k, takeD.siIdx (ix3 b t j) k = ix3 b t 0 := by
    intro k; funext c; refine Fin.ext ?_
    match c with
    | ⟨0, _⟩ => rfl
    | ⟨1, _⟩ => rfl
    | ⟨2, h⟩ => exact (Nat.lt_one_iff.mp (takeD.siIdx (ix3 b t j) k ⟨2, h⟩).isLt).trans rfl
  have hm : (1 : Fin 3) ∈ takeD.startIndexMap := List.mem_singleton.mpr rfl
  unfold GatherDims.start
  refine (dif_pos hm).trans ?_
  rw [e]
  have hs : S16x512x512.size (1 : Fin 3) - takeD.sliceSizes (1 : Fin 3) = 511 := by decide
  rw [hs]

/-- On the row axis the gather reads the result's own row. -/
theorem read_row (idx : IVec S16x512x1 32) (b : Fin 16) (t j : Fin 512) : (takeD.operandIdx (ix3 b t j) idx (0 : Fin 3)).val = b.val := by
  show takeD.start _ _ (0 : Fin 3) + takeD.batchCoord _ (0 : Fin 3) + takeD.offCoord _ (0 : Fin 3) = _
  rw [GatherDims.start_batching _ _ _ _ (List.mem_singleton.mpr rfl),
    GatherDims.offCoord_eq_zero _ _ _ (fun h => ((GatherDims.mem_sKept _ _).mp h).2 (List.mem_singleton.mpr rfl)), Nat.zero_add, Nat.add_zero]
  have hm : (0 : Fin 3) ∈ takeD.operandBatchingDims := List.mem_singleton.mpr rfl
  unfold GatherDims.batchCoord
  exact (dif_pos hm).trans rfl

/-- On the time axis it reads at the clamped start. -/
theorem read_time (idx : IVec S16x512x1 32) (b : Fin 16) (t j : Fin 512) :
    (takeD.operandIdx (ix3 b t j) idx (1 : Fin 3)).val = min (idx (ix3 b t 0)).toInt.toNat 511 := by
  show takeD.start _ _ (1 : Fin 3) + takeD.batchCoord _ (1 : Fin 3) + takeD.offCoord _ (1 : Fin 3) = _
  rw [GatherDims.batchCoord_eq_zero _ _ _ (show (1 : Fin 3) ∉ [(0 : Fin 3)] by decide),
    GatherDims.offCoord_eq_zero _ _ _ (fun h => ((GatherDims.mem_sKept _ _).mp h).1 (List.mem_singleton.mpr rfl)), Nat.add_zero]
  exact start_time idx b t j

/-- On the column axis it reads the result's own column. -/
theorem read_col (idx : IVec S16x512x1 32) (b : Fin 16) (t j : Fin 512) : (takeD.operandIdx (ix3 b t j) idx (2 : Fin 3)).val = j.val := by
  show takeD.start _ _ (2 : Fin 3) + takeD.batchCoord _ (2 : Fin 3) + takeD.offCoord _ (2 : Fin 3) = _
  have hm : (2 : Fin 3) ∉ takeD.startIndexMap := show (2 : Fin 3) ∉ [(1 : Fin 3)] by decide
  have hk : (2 : Fin 3) ∈ takeD.sKept := (GatherDims.mem_sKept _ _).mpr
    ⟨show (2 : Fin 3) ∉ [(1 : Fin 3)] by decide, show (2 : Fin 3) ∉ [(0 : Fin 3)] by decide⟩
  have e0 : takeD.start (ix3 b t j) idx (2 : Fin 3) = 0 := by unfold GatherDims.start; exact dif_neg hm
  have e2 : takeD.offCoord (ix3 b t j) (2 : Fin 3) = j.val := by unfold GatherDims.offCoord; exact (dif_pos hk).trans rfl
  rw [e0, e2, GatherDims.batchCoord_eq_zero _ _ _ (show (2 : Fin 3) ∉ [(0 : Fin 3)] by decide), Nat.zero_add]

/-- The gather reads, at `(b, t, j)`, the entry of row `b` and column `j` at the time step its start index names. -/
theorem turned_apply (x : FVec Ideal S16x512x512 .f32) (lens : IVec S16 32) (b : Fin 16) (t : Fin 512) (j : Fin 512) (t' : Fin 512)
    (ht : min (starts lens (ix3 b t 0)).toInt.toNat 511 = t'.val) : turned x lens (ix3 b t j) = x (ix3 b t' j) := by
  show x (takeD.operandIdx (ix3 b t j) (starts lens)) = _
  refine congrArg x (funext fun a => Fin.ext ?_)
  match a with
  | ⟨0, _⟩ => exact read_row _ b t j
  | ⟨1, _⟩ => exact (read_time _ b t j).trans ht
  | ⟨2, _⟩ => exact read_col _ b t j

/-! ## One trip -/

/-- The inputs of one step of the scan. -/
def row (xs : FVec Ideal S512x16x512 .f32) (k : IVec S_ 32) : FVec Ideal S16x512 .f32 :=
  shapeCast S16x512 (Host.dynamicSlice S1x16x512 xs (fun i => (((![k, constantI S_ 32 0#32, constantI S_ 32 0#32] : Fin 3 → IVec S_ 32)) i (Shape.Idx.first h_S_)).toInt)
    sliceFits_S512x16x512_S1x16x512) shapeCasts_S1x16x512_S16x512

/-- A product against a weight matrix transposed, plus the bias. -/
def half (x : FVec Ideal S16x512 .f32) (w : FVec Ideal S1536x512 .f32) (v : FVec Ideal S1536 .f32) : FVec Ideal S16x1536 .f32 :=
  addf (Host.dotGeneral dot_S16x512_S512x1536_S16x1536_1_0_0_1_n_n none x (transpose S512x1536 [1, 0] w transposes_S1536x512_S512x1536_1_0))
    (broadcastInDim S16x1536 ![0, 1] bcast_S1x1536_S16x1536_0_1 (broadcastInDim S1x1536 ![1] bcast_S1536_S1x1536_1 v))

/-- The update gate, from the two halves of its argument. -/
def gateZ (gi gh : FVec Ideal S16x1536 .f32) : FVec Ideal S16x512 .f32 :=
  Host.divf (broadcastInDim S16x512 ![] bcast_S_S16x512 (constant S_ .f32 0x3F800000#32)) (addf (broadcastInDim S16x512 ![] bcast_S_S16x512 (constant S_ .f32 0x3F800000#32))
    (Host.exp (Host.negf (addf (extractStridedSlice S16x512 ![0, 512] gi slices_S16x1536_S16x512_0_512) (extractStridedSlice S16x512 ![0, 512] gh slices_S16x1536_S16x512_0_512)))))

/-- The new state, from the two halves of the gates' arguments and the state before. -/
def cell (gi gh : FVec Ideal S16x1536 .f32) (h : FVec Ideal S16x512 .f32) : FVec Ideal S16x512 .f32 :=
  addf (mulf (subf (broadcastInDim S16x512 ![] bcast_S_S16x512 (constant S_ .f32 0x3F800000#32)) (gateZ gi gh))
    (Host.tanh (addf (extractStridedSlice S16x512 ![0, 1024] gi slices_S16x1536_S16x512_0_1024)
      (mulf (Host.divf (broadcastInDim S16x512 ![] bcast_S_S16x512 (constant S_ .f32 0x3F800000#32)) (addf (broadcastInDim S16x512 ![] bcast_S_S16x512 (constant S_ .f32 0x3F800000#32))
          (Host.exp (Host.negf (addf (extractStridedSlice S16x512 ![0, 0] gi slices_S16x1536_S16x512_0_0) (extractStridedSlice S16x512 ![0, 0] gh slices_S16x1536_S16x512_0_0))))))
        (extractStridedSlice S16x512 ![0, 1024] gh slices_S16x1536_S16x512_0_1024)))))
    (mulf (gateZ gi gh) h)

/-- Which rows are still inside their length. -/
def live (io : IVec S512 32) (k : IVec S_ 32) (lens : IVec S16 32) : IVec S16x512 1 :=
  broadcastInDim S16x512 ![0, 1] bcast_S16x1_S16x512_0_1 (broadcastInDim S16x1 ![0] bcast_S16_S16x1_0 (cmpi .slt (broadcastInDim S16 ![] bcast_S_S16
    (shapeCast S_ (Host.dynamicSlice S1 io (fun i => (((![k] : Fin 1 → IVec S_ 32)) i (Shape.Idx.first h_S_)).toInt) sliceFits_S512_S1) shapeCasts_S1_S_)) lens))

/-- The outputs after a step's row is written. -/
def put (ys : FVec Ideal S512x16x512 .f32) (k : IVec S_ 32) (y : FVec Ideal S16x512 .f32) : FVec Ideal S512x16x512 .f32 :=
  Host.dynamicUpdateSlice ys (broadcastInDim S1x16x512 ![1, 2] bcast_S16x512_S1x16x512_1_2 y)
    (fun i => (((![k, constantI S_ 32 0#32, constantI S_ 32 0#32] : Fin 3 → IVec S_ 32)) i (Shape.Idx.first h_S_)).toInt) updateFits_S512x16x512_S1x16x512

/-- The array of zeros. -/
def zeros : FVec Ideal S16x512 .f32 := broadcastInDim S16x512 ![] bcast_S_S16x512 (constant S_ .f32 0x00000000#32)

variable (V0 : Valuation τ sig (Elt Ideal))

/-- The candidate next state of one trip. -/
def next : FVec Ideal S16x512 .f32 :=
  cell (half (row (V0 (Proc.devRef .tc main_v18_0)) (V0 (Proc.devRef .tc main_v18_7))) (V0 (Proc.devRef .tc main_v18_2)) (V0 (Proc.devRef .tc main_v18_3)))
    (half (V0 (Proc.devRef .tc main_v18_8)) (V0 (Proc.devRef .tc main_v18_4)) (V0 (Proc.devRef .tc main_v18_5))) (V0 (Proc.devRef .tc main_v18_8))

/-- One trip's state. -/
theorem step8 : step_main_v18_8 V0 = select (live (V0 (Proc.devRef .tc main_v18_1)) (V0 (Proc.devRef .tc main_v18_7)) (V0 (Proc.devRef .tc main_v18_6)))
    (next V0) (V0 (Proc.devRef .tc main_v18_8)) := rfl

/-- One trip's outputs. -/
theorem step9 : step_main_v18_9 V0 = put (V0 (Proc.devRef .tc main_v18_9)) (V0 (Proc.devRef .tc main_v18_7))
    (select (live (V0 (Proc.devRef .tc main_v18_1)) (V0 (Proc.devRef .tc main_v18_7)) (V0 (Proc.devRef .tc main_v18_6)))
    (next V0) zeros) := rfl

/-- The last result, of the outputs after the loop. -/
theorem out33 : out_main_v33 V0 = turned (transpose S16x512x512 [1, 0, 2] (V0 (Proc.devRef .tc main_v18_9)) transposes_S512x16x512_S16x512x512_1_0_2)
    (V0 (Proc.devRef .tc main_arg1)) := rfl

variable (s : Fin 512) (b : Fin 16) (j : Fin 512)

/-- The step number's word, read signed, is the step number. -/
theorem word_toInt : (BitVec.ofNat 32 s.val).toInt = s.val := toInt_ofNat_of_lt (by omega)

/-- A window one step deep starts at the step on the first axis and at zero on the other two. -/
theorem clamped (h : S1x16x512.rank = S512x16x512.rank) :
    let st : Fin 3 → Int := fun i => ((![fun _ => BitVec.ofNat 32 s.val, constantI S_ 32 0#32, constantI S_ 32 0#32] : Fin 3 → IVec S_ 32) i (Shape.Idx.first h_S_)).toInt
    Host.clampedStart S512x16x512 S1x16x512 h st 0 = s.val ∧ Host.clampedStart S512x16x512 S1x16x512 h st 1 = 0
      ∧ Host.clampedStart S512x16x512 S1x16x512 h st 2 = 0 :=
  ⟨Host.clampedStart_of_le _ _ _ _ (word_toInt s) (by show s.val + 1 ≤ 512; omega), Host.clampedStart_of_le _ _ _ _ rfl (show 0 + 16 ≤ 16 by decide),
    Host.clampedStart_of_le _ _ _ _ rfl (show 0 + 512 ≤ 512 by decide)⟩

/-- The inputs of step `s` are the array's. -/
theorem row_apply (xs : FVec Ideal S512x16x512 .f32) : row xs (fun _ => BitVec.ofNat 32 s.val) (ix2 b j) = xs (ix3 s b j) := by
  obtain ⟨h0, h1, h2⟩ := clamped s rfl
  pointwise [row]
  simp only [h0, h1, h2, Nat.zero_add]

/-- At step `s` a row is live when `s`'s word is below its length. -/
theorem live_apply (io : IVec S512 32) (lens : IVec S16 32) (hio : io (ix1 s) = BitVec.ofNat 32 s.val) :
    live io (fun _ => BitVec.ofNat 32 s.val) lens (ix2 b j) = BitVec.ofBool ((BitVec.ofNat 32 s.val).slt (lens (ix1 b))) := by
  have h0 : Host.clampedStart S512 S1 rfl (fun _ => (BitVec.ofNat 32 s.val).toInt) 0 = s.val :=
    Host.clampedStart_of_le _ _ _ _ (word_toInt s) (by show s.val + 1 ≤ 512; omega)
  pointwise [live]
  simp only [h0, hio]
  rfl

/-- After step `s` the outputs hold that step's row, and their own entries elsewhere. -/
theorem put_apply (ys : FVec Ideal S512x16x512 .f32) (y : FVec Ideal S16x512 .f32) (s' : Fin 512) :
    put ys (fun _ => BitVec.ofNat 32 s.val) y (ix3 s' b j) = if s' = s then y (ix2 b j) else ys (ix3 s' b j) := by
  obtain ⟨h0, h1, h2⟩ := clamped s rfl
  pointwise [put]
  simp only [h0, h1, h2, Nat.sub_zero, Nat.zero_le, and_true]
  by_cases h : s' = s
  · subst h; simp
  · have : ¬ (s.val ≤ s'.val ∧ s'.val < s.val + 1) := fun k => h (Fin.ext (by omega))
    rw [dif_neg this, if_neg h]

/-- A half of a gate's argument is the vector against the weight row, plus the bias. -/
theorem half_apply (x : FVec Ideal S16x512 .f32) (w : FVec Ideal S1536x512 .f32) (v : FVec Ideal S1536 .f32) (q : Fin 1536) :
    half x w v (ix2 b q) = dot (fun q d => w (ix2 q d)) (fun d => x (ix2 b d)) q + v (ix1 q) := by
  pointwise [half]
  rfl

/-- The new state at an entry is the recurrence's update, once the two halves are the recurrence's. -/
theorem cell_apply (a : Args) (t : Fin 512) (st : Fin 512 → EReal) (gi gh : FVec Ideal S16x1536 .f32) (h : FVec Ideal S16x512 .f32)
    (hi : ∀ q, gi (ix2 b q) = a.gi b t q) (hh : ∀ q, gh (ix2 b q) = a.gh st q) (hs : h (ix2 b j) = st j) :
    cell gi gh h (ix2 b j) = a.gru b t st j := by
  pointwise [cell, gateZ]
  rw [hi, hi, hi, hh, hh, hh, hs]
  rfl

/-- The array of zeros at an entry. -/
theorem zeros_apply : zeros (ix2 b j) = 0 := by
  pointwise [zeros]

end Cert.ReferenceIdeal.Steps

end
-- ==== Proof.ReferenceValue.lean ====
/- The reference's two results over the extended reals: its forward loop over the reversed prefix reaches, step by step, the
   states of the recurrence from the end of the sequence. -/
module

public import proofs.«01_k».proof.Proof.ReferenceStep

@[expose] public section

set_option maxRecDepth 16384

noncomputable section

namespace Cert.ReferenceIdeal.Steps

open Cert.ReferenceIdeal Cert.ReferenceIdeal.Gen Cert.ReferenceIdeal.Value
open Idealize.ShloMosaic Idealize.ShloMosaic.TcCoe Idealize.ShloMosaic.StableHlo Cert.Gru

/-! ## Lengths as numbers -/

/-- The number of steps of a row that lie inside its length: the length read signed, none if it is negative. -/
def steps (a : Args) (b : Fin 16) : ℕ := (a.len b).toInt.toNat

/-- Every length is at most the sequence's. -/
def Fits (a : Args) : Prop := ∀ b, (a.len b).toInt ≤ 512

variable {a : Args} {b : Fin 16}

theorem Fits.steps_le (h : Fits a) (b : Fin 16) : steps a b ≤ 512 := by
  have := h b; unfold steps; omega

/-- A time step is inside a row's length, compared as words, when it is below the row's number of steps. -/
theorem slt_len (t : ℕ) (ht : t < 512) : (BitVec.ofNat 32 t).slt (a.len b) = decide (t < steps a b) := by
  have e : (BitVec.ofNat 32 t).toInt = t := toInt_ofNat_of_lt (by omega)
  unfold BitVec.slt steps
  rw [e]
  exact decide_eq_decide.mpr (by omega)

/-- The gather's start index as a number: the valid prefix reversed, the rest in place. -/
theorem starts_nat (lens : IVec S16 32) (hl : ∀ b, lens (ix1 b) = a.len b) (h : Fits a) (b : Fin 16) (t : Fin 512) :
    min (starts lens (ix3 b t 0)).toInt.toNat 511 = if t.val < steps a b then steps a b - 1 - t.val else t.val := by
  have hle := h.steps_le b
  have ht := t.isLt
  have key : ∀ p : BitVec 32, ∀ n : ℕ, n < 512 → p = BitVec.ofNat 32 n →
      min (if p.slt 0#32 then p + 512#32 else p).toInt.toNat 511 = n := by
    rintro _ n hn rfl
    have e : (BitVec.ofNat 32 n).toInt = n := toInt_ofNat_of_lt (by omega)
    have hs : (BitVec.ofNat 32 n).slt 0#32 = false := by
      unfold BitVec.slt; rw [e]; exact decide_eq_false (by simp)
    rw [hs, if_neg Bool.false_ne_true, e]; omega
  rw [starts_apply lens b t _ rfl, hl, slt_len t.val ht]
  by_cases hlt : t.val < steps a b
  · refine (key _ (steps a b - 1 - t.val) (by omega) ?_).trans (if_pos hlt).symm
    have e : a.len b = BitVec.ofNat 32 (steps a b) := by
      apply BitVec.eq_of_toInt_eq
      rw [toInt_ofNat_of_lt (by omega)]
      unfold steps at hlt ⊢; omega
    rw [decide_eq_true hlt, if_pos rfl, e]
    apply BitVec.eq_of_toNat_eq
    simp only [BitVec.toNat_sub, BitVec.toNat_ofNat]
    omega
  · refine (key _ t.val ht ?_).trans (if_neg hlt).symm
    rw [decide_eq_false hlt, if_neg Bool.false_ne_true]

/-! ## The recurrence past and inside a row's length -/

/-- Over the steps past a row's length the state stays zero. -/
theorem back_zero (b : Fin 16) : ∀ n, n ≤ 512 - steps a b → a.back b n = fun _ => 0
  | 0, _ => rfl
  | n + 1, hn => by
    funext j
    show (if (BitVec.ofNat 32 (511 - n)).slt (a.len b) then _ else (0 : EReal)) = 0
    rw [slt_len _ (by omega), decide_eq_false (by omega), if_neg Bool.false_ne_true]

/-- Step `k` inside a row's length updates the state with the input `k` before the last valid one. -/
theorem back_step (h : Fits a) (b : Fin 16) (k : ℕ) (hk : k < steps a b) (j : Fin 512) :
    a.back b (512 - steps a b + k + 1) j
      = a.gru b ⟨steps a b - 1 - k, by have := h.steps_le b; omega⟩ (a.back b (512 - steps a b + k)) j := by
  have hle := h.steps_le b
  show (if (BitVec.ofNat 32 (511 - (512 - steps a b + k))).slt (a.len b) then a.gru b ⟨511 - (512 - steps a b + k), _⟩ _ j else (0 : EReal)) = _
  rw [slt_len _ (by omega), decide_eq_true (by omega), if_pos rfl]
  congr 2
  omega

/-! ## The loop -/

/-- Inputs by row, rearranged by time step. -/
theorem byStep_apply (s : Fin 512) (b : Fin 16) (j : Fin 512) (x : FVec Ideal S16x512x512 .f32) :
    transpose S512x16x512 [1, 0, 2] x transposes_S16x512x512_S512x16x512_1_0_2 (ix3 s b j) = x (ix3 b s j) := by
  pointwise []

/-- Outputs by time step, rearranged by row. -/
theorem byRow_apply (s : Fin 512) (b : Fin 16) (j : Fin 512) (x : FVec Ideal S512x16x512 .f32) :
    transpose S16x512x512 [1, 0, 2] x transposes_S512x16x512_S16x512x512_1_0_2 (ix3 b s j) = x (ix3 s b j) := by
  pointwise []

variable (m : (ℓ : Loc nD τ sig) → Buf (Elt Ideal) ℓ) (c : Dev nD)

/-- The reference's arguments on device `c`. -/
def args : Args := argsOf (m ((c.tc : Thread nD τ).loc main_arg0)) (m ((c.tc : Thread nD τ).loc main_arg1))
  (m ((c.tc : Thread nD τ).loc main_arg2)) (m ((c.tc : Thread nD τ).loc main_arg3))
  (m ((c.tc : Thread nD τ).loc main_arg4)) (m ((c.tc : Thread nD τ).loc main_arg5))

/-- What one trip leaves alone: the reversed inputs by time step, the step numbers, the weights and biases, the lengths. -/
structure Const (V : Valuation τ sig (Elt Ideal)) : Prop where
  xs : V (Proc.devRef .tc main_v18_0) = transpose S512x16x512 [1, 0, 2]
    (turned (m ((c.tc : Thread nD τ).loc main_arg0)) (m ((c.tc : Thread nD τ).loc main_arg1))) transposes_S16x512x512_S512x16x512_1_0_2
  io : V (Proc.devRef .tc main_v18_1) = iotaInDim S512 32 0
  wih : V (Proc.devRef .tc main_v18_2) = m ((c.tc : Thread nD τ).loc main_arg2)
  bih : V (Proc.devRef .tc main_v18_3) = m ((c.tc : Thread nD τ).loc main_arg4)
  whh : V (Proc.devRef .tc main_v18_4) = m ((c.tc : Thread nD τ).loc main_arg3)
  bhh : V (Proc.devRef .tc main_v18_5) = m ((c.tc : Thread nD τ).loc main_arg5)
  lens : V (Proc.devRef .tc main_v18_6) = m ((c.tc : Thread nD τ).loc main_arg1)

/-- At the loop's entry. -/
theorem const_entry : Const m c (entryContents preI m c) := by
  refine ⟨?_, ?_, ?_, ?_, ?_, ?_, ?_⟩ <;>
  · simp only [entryContents, afterL_cons, afterL_nil]
    after_reads_simp
    rfl

/-- The state and the outputs start at zero. -/
theorem zero_entry : entryContents preI m c (Proc.devRef .tc main_v18_8) = zeros
    ∧ entryContents preI m c (Proc.devRef .tc main_v18_9) = broadcastInDim S512x16x512 ![] bcast_S_S512x16x512 (constant (F := Ideal) S_ .f32 0x00000000#32) := by
  refine ⟨?_, ?_⟩ <;>
  · simp only [entryContents, afterL_cons, afterL_nil]
    after_reads_simp
    rfl

/-- One trip keeps them. -/
theorem Const.step {V : Valuation τ sig (Elt Ideal)} (h : Const m c V) : Const m c (STEP V) :=
  ⟨(STEP_main_v18_0 V).trans h.xs, (STEP_main_v18_1 V).trans h.io, (STEP_main_v18_2 V).trans h.wih, (STEP_main_v18_3 V).trans h.bih,
    (STEP_main_v18_4 V).trans h.whh, (STEP_main_v18_5 V).trans h.bhh, (STEP_main_v18_6 V).trans h.lens⟩

/-- The loop after `k` trips: every row's state is the recurrence's `k` steps into the row's length (or at its end), and the
    outputs hold the states so far, zeros past the length and at the steps still to come. -/
structure Inv (k : ℕ) (V : Valuation τ sig (Elt Ideal)) : Prop extends Const m c V where
  ctr : V (Proc.devRef .tc main_v18_7) = fun _ => BitVec.ofNat 32 k
  st : ∀ (b : Fin 16) (j : Fin 512), (V (Proc.devRef .tc main_v18_8) : FVec Ideal S16x512 .f32) (ix2 b j)
    = (args m c).back b (512 - steps (args m c) b + min k (steps (args m c) b)) j
  ys : ∀ (s : Fin 512) (b : Fin 16) (j : Fin 512), (V (Proc.devRef .tc main_v18_9) : FVec Ideal S512x16x512 .f32) (ix3 s b j)
    = if s.val < k ∧ s.val < steps (args m c) b then (args m c).back b (512 - steps (args m c) b + s.val + 1) j else 0

/-- The loop's entry. -/
theorem inv_entry : Inv m c 0 (entryContents preI m c) where
  toConst := const_entry m c
  ctr := ctr_entry m c
  st b j := by
    rw [(zero_entry m c).1, back_zero b _ (by omega)]
    exact zeros_apply b j
  ys s b j := by
    rw [(zero_entry m c).2, if_neg (by omega)]
    pointwise []

/-- A trip's candidate state, in a row still inside its length, is the recurrence's next state. -/
theorem next_apply (hf : Fits (args m c)) (k : Fin 512) (V : Valuation τ sig (Elt Ideal)) (h : Inv m c k.val V) (b : Fin 16) (j : Fin 512)
    (hk : k.val < steps (args m c) b) :
    next V (ix2 b j) = (args m c).back b (512 - steps (args m c) b + k.val + 1) j := by
  have hle := hf.steps_le b
  have hst : ∀ d, (V (Proc.devRef .tc main_v18_8) : FVec Ideal S16x512 .f32) (ix2 b d)
      = (args m c).back b (512 - steps (args m c) b + k.val) d := fun d => by rw [h.st b d, min_eq_left (by omega)]
  rw [back_step hf b k.val hk j]
  unfold next
  refine cell_apply b j (args m c) _ _ _ _ _ (fun q => ?_) (fun q => ?_) (hst j)
  · rw [half_apply, h.wih, h.bih, h.ctr, h.xs]
    unfold Args.gi
    refine congrArg₂ (· + ·) ?_ rfl
    refine congrArg (fun v => dot (args m c).wih v q) (funext fun d => ?_)
    refine (row_apply k b d _).trans ?_
    refine (byStep_apply k b d _).trans ?_
    exact turned_apply _ _ b k d _ ((starts_nat (a := args m c) _ (fun _ => rfl) hf b k).trans (if_pos hk))
  · rw [half_apply, h.whh, h.bhh]
    unfold Args.gh
    refine congrArg₂ (· + ·) ?_ rfl
    exact congrArg (fun v => dot (args m c).whh v q) (funext hst)

/-- The rows a trip updates are those whose length its step lies inside. -/
theorem Inv.live_eq (k : Fin 512) (V : Valuation τ sig (Elt Ideal)) (h : Inv m c k.val V) (b : Fin 16) (j : Fin 512) :
    live (V (Proc.devRef .tc main_v18_1)) (V (Proc.devRef .tc main_v18_7)) (V (Proc.devRef .tc main_v18_6)) (ix2 b j)
      = BitVec.ofBool (decide (k.val < steps (args m c) b)) := by
  rw [h.ctr, h.io, h.lens, ← slt_len k.val k.isLt]
  exact live_apply k b j _ _ rfl

/-- One trip. -/
theorem Inv.step (hf : Fits (args m c)) (k : Fin 512) (V : Valuation τ sig (Elt Ideal)) (h : Inv m c k.val V) : Inv m c (k.val + 1) (STEP V) where
  toConst := h.toConst.step m c
  ctr := by
    rw [STEP_main_v18_7]
    show addi (V (Proc.devRef .tc main_v18_7)) (constantI S_ 32 1#32) = _
    rw [h.ctr]
    funext i
    show BitVec.ofNat 32 k.val + 1#32 = _
    exact (BitVec.ofNat_add ..).symm
  st b j := by
    have hle := hf.steps_le b
    have hl := h.live_eq m c k V b j
    rw [STEP_main_v18_8, step8]
    show Scalar.select (live _ _ _ (ix2 b j)) (next V (ix2 b j)) _ = _
    rw [hl, select_ofBool]
    by_cases hk : k.val < steps (args m c) b
    · rw [decide_eq_true hk, if_pos rfl, next_apply m c hf k V h b j hk, min_eq_left (by omega)]; rfl
    · rw [decide_eq_false hk, if_neg Bool.false_ne_true, h.st, min_eq_right (by omega), min_eq_right (by omega)]
  ys s b j := by
    have hle := hf.steps_le b
    have hl := h.live_eq m c k V b j
    rw [STEP_main_v18_9, step9]
    generalize hy : select (live (V (Proc.devRef .tc main_v18_1)) (V (Proc.devRef .tc main_v18_7)) (V (Proc.devRef .tc main_v18_6))) (next V) zeros = y
    have hy' : y (ix2 b j) = if k.val < steps (args m c) b then (args m c).back b (512 - steps (args m c) b + k.val + 1) j else 0 := by
      rw [← hy]
      show Scalar.select (live _ _ _ (ix2 b j)) (next V (ix2 b j)) (zeros (ix2 b j)) = _
      rw [hl, select_ofBool, zeros_apply]
      by_cases hk : k.val < steps (args m c) b
      · rw [decide_eq_true hk, if_pos rfl, if_pos hk, next_apply m c hf k V h b j hk]
      · rw [decide_eq_false hk, if_neg Bool.false_ne_true, if_neg hk]
    rw [h.ctr]
    refine (put_apply k b j _ y s).trans ?_
    by_cases hs : s = k
    · subst hs
      rw [if_pos rfl, hy']
      exact if_congr (by omega) rfl rfl
    · have : s.val ≠ k.val := fun e => hs (Fin.ext e)
      rw [if_neg hs, h.ys]
      exact if_congr (by omega) rfl rfl

/-- Every number of trips up to the sequence's length. -/
theorem inv (hf : Fits (args m c)) : ∀ k, k ≤ 512 → Inv m c k (STEP^[k] (entryContents preI m c))
  | 0, _ => inv_entry m c
  | k + 1, hk => by
    rw [Function.iterate_succ_apply']
    exact (inv hf k (by omega)).step m c hf ⟨k, by omega⟩ _

/-! ## The two results -/

/-- The first result: every row's state after the whole sequence. -/
theorem final_eq (hf : Fits (args m c)) : STEP^[512] (entryContents preI m c) (Proc.devRef .tc main_v18_8)
    = (fun i => (args m c).back (i 0) 512 (i 1) : FVec Ideal S16x512 .f32) := by
  refine funext fun (y : S16x512.Idx) => ?_
  idx_vars y
  revert y0 y1; intro b j
  have hle := hf.steps_le b
  rw [(inv m c hf 512 le_rfl).st b j, min_eq_right hle, Nat.sub_add_cancel hle]

/-- The second result: every row's state at every time step, turned back. -/
theorem outs_eq (hf : Fits (args m c)) : out_main_v33 (STEP^[512] (entryContents preI m c))
    = (fun i => (args m c).back (i 0) (512 - (i 1).val) (i 2) : FVec Ideal S16x512x512 .f32) := by
  rw [out33, iter_main_arg1]
  have h := inv m c hf 512 le_rfl
  revert h
  generalize STEP^[512] (entryContents preI m c) = V
  intro h
  refine funext fun (y : S16x512x512.Idx) => ?_
  idx_vars y
  revert y0 y1 y2; intro b t j
  have hle := hf.steps_le b
  have ht := t.isLt
  have hn := starts_nat (a := args m c) (m ((c.tc : Thread nD τ).loc main_arg1)) (fun _ => rfl) hf b t
  show _ = (args m c).back b (512 - t.val) j
  by_cases hlt : t.val < steps (args m c) b
  · rw [turned_apply _ _ b t j ⟨steps (args m c) b - 1 - t.val, by omega⟩ (hn.trans (if_pos hlt))]
    refine (byRow_apply _ b j _).trans ?_
    rw [h.ys, if_pos ⟨by show steps (args m c) b - 1 - t.val < 512; omega, by show steps (args m c) b - 1 - t.val < _; omega⟩]
    have e : 512 - steps (args m c) b + (steps (args m c) b - 1 - t.val) + 1 = 512 - t.val := by omega
    exact congrFun (congrArg ((args m c).back b) e) j
  · rw [turned_apply _ _ b t j t (hn.trans (if_neg hlt))]
    refine (byRow_apply t b j _).trans ?_
    rw [h.ys, if_neg (fun k => hlt k.2), back_zero b _ (by omega)]

end Cert.ReferenceIdeal.Steps

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.KernelValue
public import proofs.«01_k».proof.Proof.ReferenceValue
public import Idealize.ShloMosaic.Adequacy
public import Idealize.ShloMosaic.Init

@[expose] public section

noncomputable section

namespace Cert.Proof

open Idealize.ShloMosaic Idealize.ShloMosaic.TcCoe Idealize.SL.Sem Cert.Gru

/-- The one shape relation the precondition states: a scalar broadcasts to the 16 lengths. -/
instance pre_facts : Cert.Pre_lens_fit.Facts := ⟨Cert.ReferenceIdeal.Gen.bcast_S_S16⟩

/-- The reference leaves its arguments as they were, and its semaphores: it declares none. -/
theorem reference_frame : Cert.quiescent_ReferenceIdeal := fun m ρ _ =>
  (θ_run Cert.ReferenceIdeal.defs _ _).mono
    (fun r h => ⟨fun c => (h c).2.2, sem_eq_zero_of_no_sems (by decide) r.2⟩)
    (Cert.ReferenceIdeal.Value.run m ρ)

section Values

variable {m : (ℓ : Loc Cert.KernelIdeal.nD Cert.KernelIdeal.τ Cert.KernelIdeal.sig) → Buf (Elt Ideal) ℓ}
  {m' : (ℓ : Loc Cert.ReferenceIdeal.nD Cert.ReferenceIdeal.τ Cert.ReferenceIdeal.sig) → Buf (Elt Ideal) ℓ}

/-- Under the precondition no length, read signed, exceeds 512. -/
theorem fits (h : Cert.Pre_KernelIdeal_lens_fit m) (c : Dev Cert.KernelIdeal.nD) :
    Cert.ReferenceIdeal.Steps.Fits (Cert.KernelIdeal.Steps.args m c) := by
  intro b
  have e : BitVec.ofBool (BitVec.sle ((Cert.KernelIdeal.Steps.args m c).len b) 512#32) = 1#1 := congrFun (h c) (ix1 b)
  have e' : BitVec.sle ((Cert.KernelIdeal.Steps.args m c).len b) 512#32 = true := by
    revert e
    cases BitVec.sle ((Cert.KernelIdeal.Steps.args m c).len b) 512#32
    · decide
    · exact fun _ => rfl
  exact BitVec.sle_iff_toInt_le.mp e'

end Values

/-- Over the extended reals the kernel and the reference, run on the same arguments with no length above 512, return the same
    final state of every row and the same state at every time step. -/
theorem same_results : Cert.algebraic_KernelIdeal_ReferenceIdeal_pre_lens_fit := by
  intro m ρ m' ρ' hpre hargs
  have ha : ∀ c, Cert.ReferenceIdeal.Steps.args m' c = Cert.KernelIdeal.Steps.args m c := fun c => by
    obtain ⟨h0, h1, h2, h3, h4, h5⟩ := hargs c
    unfold Cert.ReferenceIdeal.Steps.args Cert.KernelIdeal.Steps.args
    congr 1
  have hf : ∀ c, Cert.ReferenceIdeal.Steps.Fits (Cert.ReferenceIdeal.Steps.args m' c) := fun c => by
    rw [ha c]; exact fits hpre c
  refine ⟨fun c => Cert.KernelIdeal.Steps.final (Cert.KernelIdeal.Steps.args m c),
    fun c => Cert.KernelIdeal.Steps.outs (Cert.KernelIdeal.Steps.args m c),
    (θ_run Cert.KernelIdeal.defs _ _).mono (fun r h c => ?_) (Cert.KernelIdeal.Value.run_blocks m ρ),
    (θ_run Cert.ReferenceIdeal.defs _ _).mono (fun r h c => ?_) (Cert.ReferenceIdeal.Value.run m' ρ')⟩
  · exact ⟨(h c).1.trans (Cert.KernelIdeal.Steps.arr6 m c), (h c).2.1.trans (Cert.KernelIdeal.Steps.arr7 m c), (h c).2.2⟩
  · refine ⟨(h c).1.trans ((Cert.ReferenceIdeal.Steps.final_eq m' c (hf c)).trans ?_),
      (h c).2.1.trans ((Cert.ReferenceIdeal.Steps.outs_eq m' c (hf c)).trans ?_), (h c).2.2⟩
    · rw [ha c]; rfl
    · rw [ha c]; rfl

/-- Every claim of the certificate. -/
theorem claim : Cert.Claim :=
  ⟨Cert.Kernel.Gen.facts, Cert.KernelIdeal.Gen.facts, Cert.ReferenceIdeal.Gen.facts, pre_facts,
    fun m ρ _ => Cert.Kernel.Gen.frame m ρ, fun m ρ _ => Cert.KernelIdeal.Gen.frame m ρ,
    fun m ρ _ => Cert.KernelIdeal.Gen.frame m ρ, reference_frame, fun m ρ _ => reference_frame m ρ trivial, trivial, same_results⟩

end Cert.Proof

end
